-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S2x1024x1024 : Shape := ⟨3, ![2, 1024, 1024]⟩
abbrev S4x3x1024x512 : Shape := ⟨4, ![4, 3, 1024, 512]⟩
abbrev S2x1024x512 : Shape := ⟨3, ![2, 1024, 512]⟩
abbrev S2 : Shape := ⟨1, ![2]⟩
abbrev S4x6 : Shape := ⟨2, ![4, 6]⟩
abbrev S_ : Shape := ⟨0, ![]⟩
abbrev S1x1024x1024 : Shape := ⟨3, ![1, 1024, 1024]⟩
abbrev S1024x1024 : Shape := ⟨2, ![1024, 1024]⟩
abbrev S1x1 : Shape := ⟨2, ![1, 1]⟩
abbrev S1x1x1024x512 : Shape := ⟨4, ![1, 1, 1024, 512]⟩
abbrev S1024x512 : Shape := ⟨2, ![1024, 512]⟩
abbrev S1x1024x512 : Shape := ⟨3, ![1, 1024, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x2048, .f32⟩
  | .local _ .vmem, ⟨1, _⟩ => ⟨S2x1024x1024, .f32⟩
  | .local _ .vmem, ⟨2, _⟩ => ⟨S4096x2048, .bf16⟩
  | .local _ .vmem, ⟨3, _⟩ => ⟨S4x3x1024x512, .bf16⟩
  | .local _ .vmem, ⟨4, _⟩ => ⟨S2x1024x512, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v30 : BitVec 32 := Scalar.muli v2 c1024_i32
  let c0_i32_23 : BitVec 32 := 0#32
  ![v30.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v41 : BitVec 32 := Scalar.subi v2 c1_i32_29
  let c4_i32_30 : BitVec 32 := 4#32
  let c0_i32_31 : BitVec 32 := 0#32
  let v42 : BitVec 1 := Scalar.cmpi .eq c4_i32_30 c0_i32_31
  let c1_i32_32 : BitVec 32 := 1#32
  let v43 : BitVec 32 := Scalar.select v42 c1_i32_32 c4_i32_30
  let v44 : BitVec 32 := Scalar.remsi v41 v43
  let c0_i32_34 : BitVec 32 := 0#32
  let v46 : BitVec 1 := Scalar.cmpi .slt v44 c0_i32_34
  let c0_i32_35 : BitVec 32 := 0#32
  let v47 : BitVec 1 := Scalar.cmpi .slt v43 c0_i32_35
  let v48 : BitVec 1 := Scalar.xori v46 v47
  let c0_i32_33 : BitVec 32 := 0#32
  let v45 : BitVec 1 := Scalar.cmpi .ne v44 c0_i32_33
  let v49 : BitVec 1 := Scalar.andi v48 v45
  let v50 : BitVec 32 := Scalar.addi v44 v43
  let v51 : BitVec 32 := Scalar.select v49 v50 v44
  let c1024_i32_36 : BitVec 32 := 1024#32
  let v52 : BitVec 32 := Scalar.muli v51 c1024_i32_36
  let c0_i32_41 : BitVec 32 := 0#32
  ![v52.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_46 : BitVec 32 := 1024#32
  let v64 : BitVec 32 := Scalar.muli v2 c1024_i32_46
  let v65 : Index := Scalar.indexCast v64
  let c0_47 : Index := 0#32
  ![v65.toNat, 0]
def k0_off4 (d0 : Dev nD) (c0_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : BitVec 32 := Scalar.subi v2 c0_i32_48
  let c4_i32_49 : BitVec 32 := 4#32
  let c0_i32_50 : BitVec 32 := 0#32
  let v70 : BitVec 1 := Scalar.cmpi .eq c4_i32_49 c0_i32_50
  let c1_i32_51 : BitVec 32 := 1#32
  let v71 : BitVec 32 := Scalar.select v70 c1_i32_51 c4_i32_49
  let v72 : BitVec 32 := Scalar.remsi v69 v71
  let c0_i32_53 : BitVec 32 := 0#32
  let v74 : BitVec 1 := Scalar.cmpi .slt v72 c0_i32_53
  let c0_i32_54 : BitVec 32 := 0#32
  let v75 : BitVec 1 := Scalar.cmpi .slt v71 c0_i32_54
  let v76 : BitVec 1 := Scalar.xori v74 v75
  let c0_i32_52 : BitVec 32 := 0#32
  let v73 : BitVec 1 := Scalar.cmpi .ne v72 c0_i32_52
  let v77 : BitVec 1 := Scalar.andi v76 v73
  let v78 : BitVec 32 := Scalar.addi v72 v71
  let v79 : BitVec 32 := Scalar.select v77 v78 v72
  let c1024_i32_55 : BitVec 32 := 1024#32
  let v80 : BitVec 32 := Scalar.muli v79 c1024_i32_55
  let c0_i32_66 : BitVec 32 := 0#32
  ![v80.toNat, 0]
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v81 : BitVec 32 := Scalar.muli v24 c1_i32_62
  let v82 : BitVec 32 := Scalar.addi c0_i32_63 v81
  v82.toNat
def k0_off5 (d0 : Dev nD) (c0_i32_67 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v90 : BitVec 32 := Scalar.addi v2 c0_i32_67
  let c4_i32_68 : BitVec 32 := 4#32
  let c0_i32_69 : BitVec 32 := 0#32
  let v91 : BitVec 1 := Scalar.cmpi .eq c4_i32_68 c0_i32_69
  let c1_i32_70 : BitVec 32 := 1#32
  let v92 : BitVec 32 := Scalar.select v91 c1_i32_70 c4_i32_68
  let v93 : BitVec 32 := Scalar.remsi v90 v92
  let c0_i32_72 : BitVec 32 := 0#32
  let v95 : BitVec 1 := Scalar.cmpi .slt v93 c0_i32_72
  let c0_i32_73 : BitVec 32 := 0#32
  let v96 : BitVec 1 := Scalar.cmpi .slt v92 c0_i32_73
  let v97 : BitVec 1 := Scalar.xori v95 v96
  let c0_i32_71 : BitVec 32 := 0#32
  let v94 : BitVec 1 := Scalar.cmpi .ne v93 c0_i32_71
  let v98 : BitVec 1 := Scalar.andi v97 v94
  let v99 : BitVec 32 := Scalar.addi v93 v92
  let v100 : BitVec 32 := Scalar.select v98 v99 v93
  let c1024_i32_74 : BitVec 32 := 1024#32
  let v101 : BitVec 32 := Scalar.muli v100 c1024_i32_74
  let c512_i32 : BitVec 32 := 512#32
  ![v101.toNat, 512]
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_81 : BitVec 32 := 1#32
  let v102 : BitVec 32 := Scalar.muli v13 c1_i32_81
  let v103 : BitVec 32 := Scalar.addi c0_i32_82 v102
  v103.toNat
def k0_off6 (d0 : Dev nD) (c0_i32_85 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.subi v2 c0_i32_85
  let c4_i32_86 : BitVec 32 := 4#32
  let c0_i32_87 : BitVec 32 := 0#32
  let v112 : BitVec 1 := Scalar.cmpi .eq c4_i32_86 c0_i32_87
  let c1_i32_88 : BitVec 32 := 1#32
  let v113 : BitVec 32 := Scalar.select v112 c1_i32_88 c4_i32_86
  let v114 : BitVec 32 := Scalar.remsi v111 v113
  let c0_i32_90 : BitVec 32 := 0#32
  let v116 : BitVec 1 := Scalar.cmpi .slt v114 c0_i32_90
  let c0_i32_91 : BitVec 32 := 0#32
  let v117 : BitVec 1 := Scalar.cmpi .slt v113 c0_i32_91
  let v118 : BitVec 1 := Scalar.xori v116 v117
  let c0_i32_89 : BitVec 32 := 0#32
  let v115 : BitVec 1 := Scalar.cmpi .ne v114 c0_i32_89
  let v119 : BitVec 1 := Scalar.andi v118 v115
  let v120 : BitVec 32 := Scalar.addi v114 v113
  let v121 : BitVec 32 := Scalar.select v119 v120 v114
  let c1024_i32_92 : BitVec 32 := 1024#32
  let v122 : BitVec 32 := Scalar.muli v121 c1024_i32_92
  let c1024_i32_103 : BitVec 32 := 1024#32
  ![v122.toNat, 1024]
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_99 : BitVec 32 := 1#32
  let v123 : BitVec 32 := Scalar.muli v24 c1_i32_99
  let v124 : BitVec 32 := Scalar.addi c0_i32_100 v123
  v124.toNat
def k0_off7 (d0 : Dev nD) (c0_i32_104 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : BitVec 32 := Scalar.addi v2 c0_i32_104
  let c4_i32_105 : BitVec 32 := 4#32
  let c0_i32_106 : BitVec 32 := 0#32
  let v133 : BitVec 1 := Scalar.cmpi .eq c4_i32_105 c0_i32_106
  let c1_i32_107 : BitVec 32 := 1#32
  let v134 : BitVec 32 := Scalar.select v133 c1_i32_107 c4_i32_105
  let v135 : BitVec 32 := Scalar.remsi v132 v134
  let c0_i32_109 : BitVec 32 := 0#32
  let v137 : BitVec 1 := Scalar.cmpi .slt v135 c0_i32_109
  let c0_i32_110 : BitVec 32 := 0#32
  let v138 : BitVec 1 := Scalar.cmpi .slt v134 c0_i32_110
  let v139 : BitVec 1 := Scalar.xori v137 v138
  let c0_i32_108 : BitVec 32 := 0#32
  let v136 : BitVec 1 := Scalar.cmpi .ne v135 c0_i32_108
  let v140 : BitVec 1 := Scalar.andi v139 v136
  let v141 : BitVec 32 := Scalar.addi v135 v134
  let v142 : BitVec 32 := Scalar.select v140 v141 v135
  let c1024_i32_111 : BitVec 32 := 1024#32
  let v143 : BitVec 32 := Scalar.muli v142 c1024_i32_111
  let c1536_i32 : BitVec 32 := 1536#32
  ![v143.toNat, 1536]
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_117 : BitVec 32 := 1#32
  let v144 : BitVec 32 := Scalar.muli v13 c1_i32_117
  let v145 : BitVec 32 := Scalar.addi c0_i32_118 v144
  v145.toNat
def k0_off8 (d0 : Dev nD) (c1_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v158 : BitVec 32 := Scalar.addi v2 c1_i32_126
  let c4_i32_127 : BitVec 32 := 4#32
  let c0_i32_128 : BitVec 32 := 0#32
  let v159 : BitVec 1 := Scalar.cmpi .eq c4_i32_127 c0_i32_128
  let c1_i32_129 : BitVec 32 := 1#32
  let v160 : BitVec 32 := Scalar.select v159 c1_i32_129 c4_i32_127
  let v161 : BitVec 32 := Scalar.remsi v158 v160
  let c0_i32_131 : BitVec 32 := 0#32
  let v163 : BitVec 1 := Scalar.cmpi .slt v161 c0_i32_131
  let c0_i32_132 : BitVec 32 := 0#32
  let v164 : BitVec 1 := Scalar.cmpi .slt v160 c0_i32_132
  let v165 : BitVec 1 := Scalar.xori v163 v164
  let c0_i32_130 : BitVec 32 := 0#32
  let v162 : BitVec 1 := Scalar.cmpi .ne v161 c0_i32_130
  let v166 : BitVec 1 := Scalar.andi v165 v162
  let v167 : BitVec 32 := Scalar.addi v161 v160
  let v168 : BitVec 32 := Scalar.select v166 v167 v161
  let c1024_i32_133 : BitVec 32 := 1024#32
  let v169 : BitVec 32 := Scalar.muli v168 c1024_i32_133
  let c0_i32_138 : BitVec 32 := 0#32
  ![v169.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_139 : BitVec 32 := 1#32
  let v175 : BitVec 32 := Scalar.subi v2 c1_i32_139
  let c4_i32_140 : BitVec 32 := 4#32
  let c0_i32_141 : BitVec 32 := 0#32
  let v176 : BitVec 1 := Scalar.cmpi .eq c4_i32_140 c0_i32_141
  let c1_i32_142 : BitVec 32 := 1#32
  let v177 : BitVec 32 := Scalar.select v176 c1_i32_142 c4_i32_140
  let v178 : BitVec 32 := Scalar.remsi v175 v177
  let c0_i32_144 : BitVec 32 := 0#32
  let v180 : BitVec 1 := Scalar.cmpi .slt v178 c0_i32_144
  let c0_i32_145 : BitVec 32 := 0#32
  let v181 : BitVec 1 := Scalar.cmpi .slt v177 c0_i32_145
  let v182 : BitVec 1 := Scalar.xori v180 v181
  let c0_i32_143 : BitVec 32 := 0#32
  let v179 : BitVec 1 := Scalar.cmpi .ne v178 c0_i32_143
  let v183 : BitVec 1 := Scalar.andi v182 v179
  let v184 : BitVec 32 := Scalar.addi v178 v177
  let v185 : BitVec 32 := Scalar.select v183 v184 v178
  let c1024_i32_151 : BitVec 32 := 1024#32
  let v192 : BitVec 32 := Scalar.muli v185 c1024_i32_151
  let v193 : Index := Scalar.indexCast v192
  let c0_152 : Index := 0#32
  ![v193.toNat, 0]
def k0_off10 (d0 : Dev nD) (c1_i32_171 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v219 : BitVec 32 := Scalar.addi v2 c1_i32_171
  let c4_i32_172 : BitVec 32 := 4#32
  let c0_i32_173 : BitVec 32 := 0#32
  let v220 : BitVec 1 := Scalar.cmpi .eq c4_i32_172 c0_i32_173
  let c1_i32_174 : BitVec 32 := 1#32
  let v221 : BitVec 32 := Scalar.select v220 c1_i32_174 c4_i32_172
  let v222 : BitVec 32 := Scalar.remsi v219 v221
  let c0_i32_176 : BitVec 32 := 0#32
  let v224 : BitVec 1 := Scalar.cmpi .slt v222 c0_i32_176
  let c0_i32_177 : BitVec 32 := 0#32
  let v225 : BitVec 1 := Scalar.cmpi .slt v221 c0_i32_177
  let v226 : BitVec 1 := Scalar.xori v224 v225
  let c0_i32_175 : BitVec 32 := 0#32
  let v223 : BitVec 1 := Scalar.cmpi .ne v222 c0_i32_175
  let v227 : BitVec 1 := Scalar.andi v226 v223
  let v228 : BitVec 32 := Scalar.addi v222 v221
  let v229 : BitVec 32 := Scalar.select v227 v228 v222
  let c1024_i32_184 : BitVec 32 := 1024#32
  let v236 : BitVec 32 := Scalar.muli v229 c1024_i32_184
  let v237 : Index := Scalar.indexCast v236
  let c0_185 : Index := 0#32
  ![v237.toNat, 0]
def k0_off11 (d0 : Dev nD) (c0_i32_228 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_227 : BitVec 32 := 1#32
  let v280 : BitVec 32 := Scalar.subi v2 c1_i32_227
  let v281 : BitVec 32 := Scalar.subi v280 c0_i32_228
  let c4_i32_229 : BitVec 32 := 4#32
  let c0_i32_230 : BitVec 32 := 0#32
  let v282 : BitVec 1 := Scalar.cmpi .eq c4_i32_229 c0_i32_230
  let c1_i32_231 : BitVec 32 := 1#32
  let v283 : BitVec 32 := Scalar.select v282 c1_i32_231 c4_i32_229
  let v284 : BitVec 32 := Scalar.remsi v281 v283
  let c0_i32_233 : BitVec 32 := 0#32
  let v286 : BitVec 1 := Scalar.cmpi .slt v284 c0_i32_233
  let c0_i32_234 : BitVec 32 := 0#32
  let v287 : BitVec 1 := Scalar.cmpi .slt v283 c0_i32_234
  let v288 : BitVec 1 := Scalar.xori v286 v287
  let c0_i32_232 : BitVec 32 := 0#32
  let v285 : BitVec 1 := Scalar.cmpi .ne v284 c0_i32_232
  let v289 : BitVec 1 := Scalar.andi v288 v285
  let v290 : BitVec 32 := Scalar.addi v284 v283
  let v291 : BitVec 32 := Scalar.select v289 v290 v284
  let c1024_i32_235 : BitVec 32 := 1024#32
  let v292 : BitVec 32 := Scalar.muli v291 c1024_i32_235
  let v293 : Index := Scalar.indexCast v292
  let c0_236 : Index := 0#32
  ![v293.toNat, 0]
def k0_dev7 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_256 : BitVec 32 := 1#32
  let v314 : BitVec 32 := Scalar.muli v24 c1_i32_256
  let v315 : BitVec 32 := Scalar.addi c0_i32_257 v314
  v315.toNat
def k0_off12 (d0 : Dev nD) (c0_i32_283 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_282 : BitVec 32 := 1#32
  let v335 : BitVec 32 := Scalar.addi v2 c1_i32_282
  let v336 : BitVec 32 := Scalar.addi v335 c0_i32_283
  let c4_i32_284 : BitVec 32 := 4#32
  let c0_i32_285 : BitVec 32 := 0#32
  let v337 : BitVec 1 := Scalar.cmpi .eq c4_i32_284 c0_i32_285
  let c1_i32_286 : BitVec 32 := 1#32
  let v338 : BitVec 32 := Scalar.select v337 c1_i32_286 c4_i32_284
  let v339 : BitVec 32 := Scalar.remsi v336 v338
  let c0_i32_288 : BitVec 32 := 0#32
  let v341 : BitVec 1 := Scalar.cmpi .slt v339 c0_i32_288
  let c0_i32_289 : BitVec 32 := 0#32
  let v342 : BitVec 1 := Scalar.cmpi .slt v338 c0_i32_289
  let v343 : BitVec 1 := Scalar.xori v341 v342
  let c0_i32_287 : BitVec 32 := 0#32
  let v340 : BitVec 1 := Scalar.cmpi .ne v339 c0_i32_287
  let v344 : BitVec 1 := Scalar.andi v343 v340
  let v345 : BitVec 32 := Scalar.addi v339 v338
  let v346 : BitVec 32 := Scalar.select v344 v345 v339
  let c1024_i32_290 : BitVec 32 := 1024#32
  let v347 : BitVec 32 := Scalar.muli v346 c1024_i32_290
  let v348 : Index := Scalar.indexCast v347
  let c512 : Index := 512#32
  ![v348.toNat, 512]
def k0_dev8 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_310 : BitVec 32 := 1#32
  let v369 : BitVec 32 := Scalar.muli v13 c1_i32_310
  let v370 : BitVec 32 := Scalar.addi c0_i32_311 v369
  v370.toNat
def k0_off13 (d0 : Dev nD) (c0_i32_337 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_336 : BitVec 32 := 1#32
  let v390 : BitVec 32 := Scalar.subi v2 c1_i32_336
  let v391 : BitVec 32 := Scalar.subi v390 c0_i32_337
  let c4_i32_338 : BitVec 32 := 4#32
  let c0_i32_339 : BitVec 32 := 0#32
  let v392 : BitVec 1 := Scalar.cmpi .eq c4_i32_338 c0_i32_339
  let c1_i32_340 : BitVec 32 := 1#32
  let v393 : BitVec 32 := Scalar.select v392 c1_i32_340 c4_i32_338
  let v394 : BitVec 32 := Scalar.remsi v391 v393
  let c0_i32_342 : BitVec 32 := 0#32
  let v396 : BitVec 1 := Scalar.cmpi .slt v394 c0_i32_342
  let c0_i32_343 : BitVec 32 := 0#32
  let v397 : BitVec 1 := Scalar.cmpi .slt v393 c0_i32_343
  let v398 : BitVec 1 := Scalar.xori v396 v397
  let c0_i32_341 : BitVec 32 := 0#32
  let v395 : BitVec 1 := Scalar.cmpi .ne v394 c0_i32_341
  let v399 : BitVec 1 := Scalar.andi v398 v395
  let v400 : BitVec 32 := Scalar.addi v394 v393
  let v401 : BitVec 32 := Scalar.select v399 v400 v394
  let c1024_i32_344 : BitVec 32 := 1024#32
  let v402 : BitVec 32 := Scalar.muli v401 c1024_i32_344
  let v403 : Index := Scalar.indexCast v402
  let c1024 : Index := 1024#32
  ![v403.toNat, 1024]
def k0_dev9 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_363 : BitVec 32 := 1#32
  let v424 : BitVec 32 := Scalar.muli v24 c1_i32_363
  let v425 : BitVec 32 := Scalar.addi c0_i32_364 v424
  v425.toNat
def k0_off14 (d0 : Dev nD) (c0_i32_390 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_389 : BitVec 32 := 1#32
  let v445 : BitVec 32 := Scalar.addi v2 c1_i32_389
  let v446 : BitVec 32 := Scalar.addi v445 c0_i32_390
  let c4_i32_391 : BitVec 32 := 4#32
  let c0_i32_392 : BitVec 32 := 0#32
  let v447 : BitVec 1 := Scalar.cmpi .eq c4_i32_391 c0_i32_392
  let c1_i32_393 : BitVec 32 := 1#32
  let v448 : BitVec 32 := Scalar.select v447 c1_i32_393 c4_i32_391
  let v449 : BitVec 32 := Scalar.remsi v446 v448
  let c0_i32_395 : BitVec 32 := 0#32
  let v451 : BitVec 1 := Scalar.cmpi .slt v449 c0_i32_395
  let c0_i32_396 : BitVec 32 := 0#32
  let v452 : BitVec 1 := Scalar.cmpi .slt v448 c0_i32_396
  let v453 : BitVec 1 := Scalar.xori v451 v452
  let c0_i32_394 : BitVec 32 := 0#32
  let v450 : BitVec 1 := Scalar.cmpi .ne v449 c0_i32_394
  let v454 : BitVec 1 := Scalar.andi v453 v450
  let v455 : BitVec 32 := Scalar.addi v449 v448
  let v456 : BitVec 32 := Scalar.select v454 v455 v449
  let c1024_i32_397 : BitVec 32 := 1024#32
  let v457 : BitVec 32 := Scalar.muli v456 c1024_i32_397
  let v458 : Index := Scalar.indexCast v457
  let c1536 : Index := 1536#32
  ![v458.toNat, 1536]
def k0_dev10 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_416 : BitVec 32 := 1#32
  let v479 : BitVec 32 := Scalar.muli v13 c1_i32_416
  let v480 : BitVec 32 := Scalar.addi c0_i32_417 v479
  v480.toNat
def k0_dev11 (d0 : Dev nD) : Nat :=
  let c0_i32_472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_471 : BitVec 32 := 1#32
  let v534 : BitVec 32 := Scalar.muli v24 c1_i32_471
  let v535 : BitVec 32 := Scalar.addi c0_i32_472 v534
  v535.toNat
def k0_dev12 (d0 : Dev nD) : Nat :=
  let c0_i32_527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_526 : BitVec 32 := 1#32
  let v589 : BitVec 32 := Scalar.muli v13 c1_i32_526
  let v590 : BitVec 32 := Scalar.addi c0_i32_527 v589
  v590.toNat
def k0_dev13 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_581 : BitVec 32 := 1#32
  let v644 : BitVec 32 := Scalar.muli v24 c1_i32_581
  let v645 : BitVec 32 := Scalar.addi c0_i32_582 v644
  v645.toNat
def k0_dev14 (d0 : Dev nD) : Nat :=
  let c0_i32_637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_636 : BitVec 32 := 1#32
  let v699 : BitVec 32 := Scalar.muli v13 c1_i32_636
  let v700 : BitVec 32 := Scalar.addi c0_i32_637 v699
  v700.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_787 : BitVec 32 := 1#32
  let v848 : BitVec 32 := Scalar.addi v2 c1_i32_787
  let c4_i32_788 : BitVec 32 := 4#32
  let c0_i32_789 : BitVec 32 := 0#32
  let v849 : BitVec 1 := Scalar.cmpi .eq c4_i32_788 c0_i32_789
  let c1_i32_790 : BitVec 32 := 1#32
  let v850 : BitVec 32 := Scalar.select v849 c1_i32_790 c4_i32_788
  let v851 : BitVec 32 := Scalar.remsi v848 v850
  let c0_i32_792 : BitVec 32 := 0#32
  let v853 : BitVec 1 := Scalar.cmpi .slt v851 c0_i32_792
  let c0_i32_793 : BitVec 32 := 0#32
  let v854 : BitVec 1 := Scalar.cmpi .slt v850 c0_i32_793
  let v855 : BitVec 1 := Scalar.xori v853 v854
  let c0_i32_791 : BitVec 32 := 0#32
  let v852 : BitVec 1 := Scalar.cmpi .ne v851 c0_i32_791
  let v856 : BitVec 1 := Scalar.andi v855 v852
  let v857 : BitVec 32 := Scalar.addi v851 v850
  let v858 : BitVec 32 := Scalar.select v856 v857 v851
  let c1024_i32_794 : BitVec 32 := 1024#32
  let v859 : BitVec 32 := Scalar.muli v858 c1024_i32_794
  let v860 : Index := Scalar.indexCast v859
  let c0_795 : Index := 0#32
  ![v860.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_806 : BitVec 32 := 1#32
  let v882 : BitVec 32 := Scalar.subi v2 c1_i32_806
  let c4_i32_807 : BitVec 32 := 4#32
  let c0_i32_808 : BitVec 32 := 0#32
  let v883 : BitVec 1 := Scalar.cmpi .eq c4_i32_807 c0_i32_808
  let c1_i32_809 : BitVec 32 := 1#32
  let v884 : BitVec 32 := Scalar.select v883 c1_i32_809 c4_i32_807
  let v885 : BitVec 32 := Scalar.remsi v882 v884
  let c0_i32_811 : BitVec 32 := 0#32
  let v887 : BitVec 1 := Scalar.cmpi .slt v885 c0_i32_811
  let c0_i32_812 : BitVec 32 := 0#32
  let v888 : BitVec 1 := Scalar.cmpi .slt v884 c0_i32_812
  let v889 : BitVec 1 := Scalar.xori v887 v888
  let c0_i32_810 : BitVec 32 := 0#32
  let v886 : BitVec 1 := Scalar.cmpi .ne v885 c0_i32_810
  let v890 : BitVec 1 := Scalar.andi v889 v886
  let v891 : BitVec 32 := Scalar.addi v885 v884
  let v892 : BitVec 32 := Scalar.select v890 v891 v885
  let c1024_i32_813 : BitVec 32 := 1024#32
  let v893 : BitVec 32 := Scalar.muli v892 c1024_i32_813
  let v894 : Index := Scalar.indexCast v893
  let c512_814 : Index := 512#32
  ![v894.toNat, 512]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_825 : BitVec 32 := 1#32
  let v916 : BitVec 32 := Scalar.addi v2 c1_i32_825
  let c4_i32_826 : BitVec 32 := 4#32
  let c0_i32_827 : BitVec 32 := 0#32
  let v917 : BitVec 1 := Scalar.cmpi .eq c4_i32_826 c0_i32_827
  let c1_i32_828 : BitVec 32 := 1#32
  let v918 : BitVec 32 := Scalar.select v917 c1_i32_828 c4_i32_826
  let v919 : BitVec 32 := Scalar.remsi v916 v918
  let c0_i32_830 : BitVec 32 := 0#32
  let v921 : BitVec 1 := Scalar.cmpi .slt v919 c0_i32_830
  let c0_i32_831 : BitVec 32 := 0#32
  let v922 : BitVec 1 := Scalar.cmpi .slt v918 c0_i32_831
  let v923 : BitVec 1 := Scalar.xori v921 v922
  let c0_i32_829 : BitVec 32 := 0#32
  let v920 : BitVec 1 := Scalar.cmpi .ne v919 c0_i32_829
  let v924 : BitVec 1 := Scalar.andi v923 v920
  let v925 : BitVec 32 := Scalar.addi v919 v918
  let v926 : BitVec 32 := Scalar.select v924 v925 v919
  let c1024_i32_832 : BitVec 32 := 1024#32
  let v927 : BitVec 32 := Scalar.muli v926 c1024_i32_832
  let v928 : Index := Scalar.indexCast v927
  let c1024_833 : Index := 1024#32
  ![v928.toNat, 1024]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_844 : BitVec 32 := 1#32
  let v950 : BitVec 32 := Scalar.subi v2 c1_i32_844
  let c4_i32_845 : BitVec 32 := 4#32
  let c0_i32_846 : BitVec 32 := 0#32
  let v951 : BitVec 1 := Scalar.cmpi .eq c4_i32_845 c0_i32_846
  let c1_i32_847 : BitVec 32 := 1#32
  let v952 : BitVec 32 := Scalar.select v951 c1_i32_847 c4_i32_845
  let v953 : BitVec 32 := Scalar.remsi v950 v952
  let c0_i32_849 : BitVec 32 := 0#32
  let v955 : BitVec 1 := Scalar.cmpi .slt v953 c0_i32_849
  let c0_i32_850 : BitVec 32 := 0#32
  let v956 : BitVec 1 := Scalar.cmpi .slt v952 c0_i32_850
  let v957 : BitVec 1 := Scalar.xori v955 v956
  let c0_i32_848 : BitVec 32 := 0#32
  let v954 : BitVec 1 := Scalar.cmpi .ne v953 c0_i32_848
  let v958 : BitVec 1 := Scalar.andi v957 v954
  let v959 : BitVec 32 := Scalar.addi v953 v952
  let v960 : BitVec 32 := Scalar.select v958 v959 v953
  let c1024_i32_851 : BitVec 32 := 1024#32
  let v961 : BitVec 32 := Scalar.muli v960 c1024_i32_851
  let v962 : Index := Scalar.indexCast v961
  let c1536_852 : Index := 1536#32
  ![v962.toNat, 1536]
def k0_off19 (d0 : Dev nD) (c0_i32_864 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_863 : BitVec 32 := 1#32
  let v984 : BitVec 32 := Scalar.addi v2 c1_i32_863
  let v985 : BitVec 32 := Scalar.subi v984 c0_i32_864
  let c4_i32_865 : BitVec 32 := 4#32
  let c0_i32_866 : BitVec 32 := 0#32
  let v986 : BitVec 1 := Scalar.cmpi .eq c4_i32_865 c0_i32_866
  let c1_i32_867 : BitVec 32 := 1#32
  let v987 : BitVec 32 := Scalar.select v986 c1_i32_867 c4_i32_865
  let v988 : BitVec 32 := Scalar.remsi v985 v987
  let c0_i32_869 : BitVec 32 := 0#32
  let v990 : BitVec 1 := Scalar.cmpi .slt v988 c0_i32_869
  let c0_i32_870 : BitVec 32 := 0#32
  let v991 : BitVec 1 := Scalar.cmpi .slt v987 c0_i32_870
  let v992 : BitVec 1 := Scalar.xori v990 v991
  let c0_i32_868 : BitVec 32 := 0#32
  let v989 : BitVec 1 := Scalar.cmpi .ne v988 c0_i32_868
  let v993 : BitVec 1 := Scalar.andi v992 v989
  let v994 : BitVec 32 := Scalar.addi v988 v987
  let v995 : BitVec 32 := Scalar.select v993 v994 v988
  let c1024_i32_872 : BitVec 32 := 1024#32
  let v997 : BitVec 32 := Scalar.muli v995 c1024_i32_872
  let c0_i32_879 : BitVec 32 := 0#32
  ![v997.toNat, 0]
def k0_dev15 (d0 : Dev nD) : Nat :=
  let c0_i32_878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_877 : BitVec 32 := 1#32
  let v998 : BitVec 32 := Scalar.muli v24 c1_i32_877
  let v999 : BitVec 32 := Scalar.addi c0_i32_878 v998
  v999.toNat
def k0_off20 (d0 : Dev nD) (c0_i32_882 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_881 : BitVec 32 := 1#32
  let v1006 : BitVec 32 := Scalar.subi v2 c1_i32_881
  let v1007 : BitVec 32 := Scalar.addi v1006 c0_i32_882
  let c4_i32_883 : BitVec 32 := 4#32
  let c0_i32_884 : BitVec 32 := 0#32
  let v1008 : BitVec 1 := Scalar.cmpi .eq c4_i32_883 c0_i32_884
  let c1_i32_885 : BitVec 32 := 1#32
  let v1009 : BitVec 32 := Scalar.select v1008 c1_i32_885 c4_i32_883
  let v1010 : BitVec 32 := Scalar.remsi v1007 v1009
  let c0_i32_887 : BitVec 32 := 0#32
  let v1012 : BitVec 1 := Scalar.cmpi .slt v1010 c0_i32_887
  let c0_i32_888 : BitVec 32 := 0#32
  let v1013 : BitVec 1 := Scalar.cmpi .slt v1009 c0_i32_888
  let v1014 : BitVec 1 := Scalar.xori v1012 v1013
  let c0_i32_886 : BitVec 32 := 0#32
  let v1011 : BitVec 1 := Scalar.cmpi .ne v1010 c0_i32_886
  let v1015 : BitVec 1 := Scalar.andi v1014 v1011
  let v1016 : BitVec 32 := Scalar.addi v1010 v1009
  let v1017 : BitVec 32 := Scalar.select v1015 v1016 v1010
  let c1024_i32_890 : BitVec 32 := 1024#32
  let v1019 : BitVec 32 := Scalar.muli v1017 c1024_i32_890
  let c512_i32_897 : BitVec 32 := 512#32
  ![v1019.toNat, 512]
def k0_dev16 (d0 : Dev nD) : Nat :=
  let c0_i32_896 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_895 : BitVec 32 := 1#32
  let v1020 : BitVec 32 := Scalar.muli v13 c1_i32_895
  let v1021 : BitVec 32 := Scalar.addi c0_i32_896 v1020
  v1021.toNat
def k0_off21 (d0 : Dev nD) (c0_i32_900 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_899 : BitVec 32 := 1#32
  let v1028 : BitVec 32 := Scalar.addi v2 c1_i32_899
  let v1029 : BitVec 32 := Scalar.subi v1028 c0_i32_900
  let c4_i32_901 : BitVec 32 := 4#32
  let c0_i32_902 : BitVec 32 := 0#32
  let v1030 : BitVec 1 := Scalar.cmpi .eq c4_i32_901 c0_i32_902
  let c1_i32_903 : BitVec 32 := 1#32
  let v1031 : BitVec 32 := Scalar.select v1030 c1_i32_903 c4_i32_901
  let v1032 : BitVec 32 := Scalar.remsi v1029 v1031
  let c0_i32_905 : BitVec 32 := 0#32
  let v1034 : BitVec 1 := Scalar.cmpi .slt v1032 c0_i32_905
  let c0_i32_906 : BitVec 32 := 0#32
  let v1035 : BitVec 1 := Scalar.cmpi .slt v1031 c0_i32_906
  let v1036 : BitVec 1 := Scalar.xori v1034 v1035
  let c0_i32_904 : BitVec 32 := 0#32
  let v1033 : BitVec 1 := Scalar.cmpi .ne v1032 c0_i32_904
  let v1037 : BitVec 1 := Scalar.andi v1036 v1033
  let v1038 : BitVec 32 := Scalar.addi v1032 v1031
  let v1039 : BitVec 32 := Scalar.select v1037 v1038 v1032
  let c1024_i32_908 : BitVec 32 := 1024#32
  let v1041 : BitVec 32 := Scalar.muli v1039 c1024_i32_908
  let c1024_i32_915 : BitVec 32 := 1024#32
  ![v1041.toNat, 1024]
def k0_dev17 (d0 : Dev nD) : Nat :=
  let c0_i32_914 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_913 : BitVec 32 := 1#32
  let v1042 : BitVec 32 := Scalar.muli v24 c1_i32_913
  let v1043 : BitVec 32 := Scalar.addi c0_i32_914 v1042
  v1043.toNat
def k0_off22 (d0 : Dev nD) (c0_i32_918 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_917 : BitVec 32 := 1#32
  let v1050 : BitVec 32 := Scalar.subi v2 c1_i32_917
  let v1051 : BitVec 32 := Scalar.addi v1050 c0_i32_918
  let c4_i32_919 : BitVec 32 := 4#32
  let c0_i32_920 : BitVec 32 := 0#32
  let v1052 : BitVec 1 := Scalar.cmpi .eq c4_i32_919 c0_i32_920
  let c1_i32_921 : BitVec 32 := 1#32
  let v1053 : BitVec 32 := Scalar.select v1052 c1_i32_921 c4_i32_919
  let v1054 : BitVec 32 := Scalar.remsi v1051 v1053
  let c0_i32_923 : BitVec 32 := 0#32
  let v1056 : BitVec 1 := Scalar.cmpi .slt v1054 c0_i32_923
  let c0_i32_924 : BitVec 32 := 0#32
  let v1057 : BitVec 1 := Scalar.cmpi .slt v1053 c0_i32_924
  let v1058 : BitVec 1 := Scalar.xori v1056 v1057
  let c0_i32_922 : BitVec 32 := 0#32
  let v1055 : BitVec 1 := Scalar.cmpi .ne v1054 c0_i32_922
  let v1059 : BitVec 1 := Scalar.andi v1058 v1055
  let v1060 : BitVec 32 := Scalar.addi v1054 v1053
  let v1061 : BitVec 32 := Scalar.select v1059 v1060 v1054
  let c1024_i32_926 : BitVec 32 := 1024#32
  let v1063 : BitVec 32 := Scalar.muli v1061 c1024_i32_926
  let c1536_i32_933 : BitVec 32 := 1536#32
  ![v1063.toNat, 1536]
def k0_dev18 (d0 : Dev nD) : Nat :=
  let c0_i32_932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_931 : BitVec 32 := 1#32
  let v1064 : BitVec 32 := Scalar.muli v13 c1_i32_931
  let v1065 : BitVec 32 := Scalar.addi c0_i32_932 v1064
  v1065.toNat
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_935 : BitVec 32 := 1#32
  let v1072 : BitVec 32 := Scalar.addi v2 c1_i32_935
  let c4_i32_936 : BitVec 32 := 4#32
  let c0_i32_937 : BitVec 32 := 0#32
  let v1073 : BitVec 1 := Scalar.cmpi .eq c4_i32_936 c0_i32_937
  let c1_i32_938 : BitVec 32 := 1#32
  let v1074 : BitVec 32 := Scalar.select v1073 c1_i32_938 c4_i32_936
  let v1075 : BitVec 32 := Scalar.remsi v1072 v1074
  let c0_i32_940 : BitVec 32 := 0#32
  let v1077 : BitVec 1 := Scalar.cmpi .slt v1075 c0_i32_940
  let c0_i32_941 : BitVec 32 := 0#32
  let v1078 : BitVec 1 := Scalar.cmpi .slt v1074 c0_i32_941
  let v1079 : BitVec 1 := Scalar.xori v1077 v1078
  let c0_i32_939 : BitVec 32 := 0#32
  let v1076 : BitVec 1 := Scalar.cmpi .ne v1075 c0_i32_939
  let v1080 : BitVec 1 := Scalar.andi v1079 v1076
  let v1081 : BitVec 32 := Scalar.addi v1075 v1074
  let v1082 : BitVec 32 := Scalar.select v1080 v1081 v1075
  let c1024_i32_947 : BitVec 32 := 1024#32
  let v1090 : BitVec 32 := Scalar.muli v1082 c1024_i32_947
  let c0_i32_950 : BitVec 32 := 0#32
  ![v1090.toNat, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_953 : BitVec 32 := 1#32
  let v1096 : BitVec 32 := Scalar.subi v2 c1_i32_953
  let c4_i32_954 : BitVec 32 := 4#32
  let c0_i32_955 : BitVec 32 := 0#32
  let v1097 : BitVec 1 := Scalar.cmpi .eq c4_i32_954 c0_i32_955
  let c1_i32_956 : BitVec 32 := 1#32
  let v1098 : BitVec 32 := Scalar.select v1097 c1_i32_956 c4_i32_954
  let v1099 : BitVec 32 := Scalar.remsi v1096 v1098
  let c0_i32_958 : BitVec 32 := 0#32
  let v1101 : BitVec 1 := Scalar.cmpi .slt v1099 c0_i32_958
  let c0_i32_959 : BitVec 32 := 0#32
  let v1102 : BitVec 1 := Scalar.cmpi .slt v1098 c0_i32_959
  let v1103 : BitVec 1 := Scalar.xori v1101 v1102
  let c0_i32_957 : BitVec 32 := 0#32
  let v1100 : BitVec 1 := Scalar.cmpi .ne v1099 c0_i32_957
  let v1104 : BitVec 1 := Scalar.andi v1103 v1100
  let v1105 : BitVec 32 := Scalar.addi v1099 v1098
  let v1106 : BitVec 32 := Scalar.select v1104 v1105 v1099
  let c1024_i32_965 : BitVec 32 := 1024#32
  let v1114 : BitVec 32 := Scalar.muli v1106 c1024_i32_965
  let c512_i32_968 : BitVec 32 := 512#32
  ![v1114.toNat, 512]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_971 : BitVec 32 := 1#32
  let v1120 : BitVec 32 := Scalar.addi v2 c1_i32_971
  let c4_i32_972 : BitVec 32 := 4#32
  let c0_i32_973 : BitVec 32 := 0#32
  let v1121 : BitVec 1 := Scalar.cmpi .eq c4_i32_972 c0_i32_973
  let c1_i32_974 : BitVec 32 := 1#32
  let v1122 : BitVec 32 := Scalar.select v1121 c1_i32_974 c4_i32_972
  let v1123 : BitVec 32 := Scalar.remsi v1120 v1122
  let c0_i32_976 : BitVec 32 := 0#32
  let v1125 : BitVec 1 := Scalar.cmpi .slt v1123 c0_i32_976
  let c0_i32_977 : BitVec 32 := 0#32
  let v1126 : BitVec 1 := Scalar.cmpi .slt v1122 c0_i32_977
  let v1127 : BitVec 1 := Scalar.xori v1125 v1126
  let c0_i32_975 : BitVec 32 := 0#32
  let v1124 : BitVec 1 := Scalar.cmpi .ne v1123 c0_i32_975
  let v1128 : BitVec 1 := Scalar.andi v1127 v1124
  let v1129 : BitVec 32 := Scalar.addi v1123 v1122
  let v1130 : BitVec 32 := Scalar.select v1128 v1129 v1123
  let c1024_i32_988 : BitVec 32 := 1024#32
  let v1143 : BitVec 32 := Scalar.muli v1130 c1024_i32_988
  let c1024_i32_991 : BitVec 32 := 1024#32
  ![v1143.toNat, 1024]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_994 : BitVec 32 := 1#32
  let v1149 : BitVec 32 := Scalar.subi v2 c1_i32_994
  let c4_i32_995 : BitVec 32 := 4#32
  let c0_i32_996 : BitVec 32 := 0#32
  let v1150 : BitVec 1 := Scalar.cmpi .eq c4_i32_995 c0_i32_996
  let c1_i32_997 : BitVec 32 := 1#32
  let v1151 : BitVec 32 := Scalar.select v1150 c1_i32_997 c4_i32_995
  let v1152 : BitVec 32 := Scalar.remsi v1149 v1151
  let c0_i32_999 : BitVec 32 := 0#32
  let v1154 : BitVec 1 := Scalar.cmpi .slt v1152 c0_i32_999
  let c0_i32_1000 : BitVec 32 := 0#32
  let v1155 : BitVec 1 := Scalar.cmpi .slt v1151 c0_i32_1000
  let v1156 : BitVec 1 := Scalar.xori v1154 v1155
  let c0_i32_998 : BitVec 32 := 0#32
  let v1153 : BitVec 1 := Scalar.cmpi .ne v1152 c0_i32_998
  let v1157 : BitVec 1 := Scalar.andi v1156 v1153
  let v1158 : BitVec 32 := Scalar.addi v1152 v1151
  let v1159 : BitVec 32 := Scalar.select v1157 v1158 v1152
  let c1024_i32_1011 : BitVec 32 := 1024#32
  let v1172 : BitVec 32 := Scalar.muli v1159 c1024_i32_1011
  let c1536_i32_1014 : BitVec 32 := 1536#32
  ![v1172.toNat, 1536]
def k0_dev19 (d0 : Dev nD) : Nat :=
  let c0_i32_1047 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1046 : BitVec 32 := 1#32
  let v1202 : BitVec 32 := Scalar.muli v24 c1_i32_1046
  let v1203 : BitVec 32 := Scalar.addi c0_i32_1047 v1202
  v1203.toNat
def k0_off27 (d0 : Dev nD) (c0_i32_1050 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1210 : BitVec 32 := Scalar.subi v2 c0_i32_1050
  let c4_i32_1051 : BitVec 32 := 4#32
  let c0_i32_1052 : BitVec 32 := 0#32
  let v1211 : BitVec 1 := Scalar.cmpi .eq c4_i32_1051 c0_i32_1052
  let c1_i32_1053 : BitVec 32 := 1#32
  let v1212 : BitVec 32 := Scalar.select v1211 c1_i32_1053 c4_i32_1051
  let v1213 : BitVec 32 := Scalar.remsi v1210 v1212
  let c0_i32_1055 : BitVec 32 := 0#32
  let v1215 : BitVec 1 := Scalar.cmpi .slt v1213 c0_i32_1055
  let c0_i32_1056 : BitVec 32 := 0#32
  let v1216 : BitVec 1 := Scalar.cmpi .slt v1212 c0_i32_1056
  let v1217 : BitVec 1 := Scalar.xori v1215 v1216
  let c0_i32_1054 : BitVec 32 := 0#32
  let v1214 : BitVec 1 := Scalar.cmpi .ne v1213 c0_i32_1054
  let v1218 : BitVec 1 := Scalar.andi v1217 v1214
  let v1219 : BitVec 32 := Scalar.addi v1213 v1212
  let v1220 : BitVec 32 := Scalar.select v1218 v1219 v1213
  let c1024_i32_1062 : BitVec 32 := 1024#32
  let v1226 : BitVec 32 := Scalar.muli v1220 c1024_i32_1062
  let v1227 : Index := Scalar.indexCast v1226
  let c0_1063 : Index := 0#32
  ![v1227.toNat, 0]
def k0_dev20 (d0 : Dev nD) : Nat :=
  let c0_i32_1103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1102 : BitVec 32 := 1#32
  let v1263 : BitVec 32 := Scalar.muli v13 c1_i32_1102
  let v1264 : BitVec 32 := Scalar.addi c0_i32_1103 v1263
  v1264.toNat
def k0_off28 (d0 : Dev nD) (c0_i32_1106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1271 : BitVec 32 := Scalar.addi v2 c0_i32_1106
  let c4_i32_1107 : BitVec 32 := 4#32
  let c0_i32_1108 : BitVec 32 := 0#32
  let v1272 : BitVec 1 := Scalar.cmpi .eq c4_i32_1107 c0_i32_1108
  let c1_i32_1109 : BitVec 32 := 1#32
  let v1273 : BitVec 32 := Scalar.select v1272 c1_i32_1109 c4_i32_1107
  let v1274 : BitVec 32 := Scalar.remsi v1271 v1273
  let c0_i32_1111 : BitVec 32 := 0#32
  let v1276 : BitVec 1 := Scalar.cmpi .slt v1274 c0_i32_1111
  let c0_i32_1112 : BitVec 32 := 0#32
  let v1277 : BitVec 1 := Scalar.cmpi .slt v1273 c0_i32_1112
  let v1278 : BitVec 1 := Scalar.xori v1276 v1277
  let c0_i32_1110 : BitVec 32 := 0#32
  let v1275 : BitVec 1 := Scalar.cmpi .ne v1274 c0_i32_1110
  let v1279 : BitVec 1 := Scalar.andi v1278 v1275
  let v1280 : BitVec 32 := Scalar.addi v1274 v1273
  let v1281 : BitVec 32 := Scalar.select v1279 v1280 v1274
  let c1024_i32_1118 : BitVec 32 := 1024#32
  let v1287 : BitVec 32 := Scalar.muli v1281 c1024_i32_1118
  let v1288 : Index := Scalar.indexCast v1287
  let c512_1119 : Index := 512#32
  ![v1288.toNat, 512]
def k0_dev21 (d0 : Dev nD) : Nat :=
  let c0_i32_1159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1158 : BitVec 32 := 1#32
  let v1324 : BitVec 32 := Scalar.muli v24 c1_i32_1158
  let v1325 : BitVec 32 := Scalar.addi c0_i32_1159 v1324
  v1325.toNat
def k0_off29 (d0 : Dev nD) (c0_i32_1162 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1332 : BitVec 32 := Scalar.subi v2 c0_i32_1162
  let c4_i32_1163 : BitVec 32 := 4#32
  let c0_i32_1164 : BitVec 32 := 0#32
  let v1333 : BitVec 1 := Scalar.cmpi .eq c4_i32_1163 c0_i32_1164
  let c1_i32_1165 : BitVec 32 := 1#32
  let v1334 : BitVec 32 := Scalar.select v1333 c1_i32_1165 c4_i32_1163
  let v1335 : BitVec 32 := Scalar.remsi v1332 v1334
  let c0_i32_1167 : BitVec 32 := 0#32
  let v1337 : BitVec 1 := Scalar.cmpi .slt v1335 c0_i32_1167
  let c0_i32_1168 : BitVec 32 := 0#32
  let v1338 : BitVec 1 := Scalar.cmpi .slt v1334 c0_i32_1168
  let v1339 : BitVec 1 := Scalar.xori v1337 v1338
  let c0_i32_1166 : BitVec 32 := 0#32
  let v1336 : BitVec 1 := Scalar.cmpi .ne v1335 c0_i32_1166
  let v1340 : BitVec 1 := Scalar.andi v1339 v1336
  let v1341 : BitVec 32 := Scalar.addi v1335 v1334
  let v1342 : BitVec 32 := Scalar.select v1340 v1341 v1335
  let c1024_i32_1174 : BitVec 32 := 1024#32
  let v1348 : BitVec 32 := Scalar.muli v1342 c1024_i32_1174
  let v1349 : Index := Scalar.indexCast v1348
  let c1024_1175 : Index := 1024#32
  ![v1349.toNat, 1024]
def k0_dev22 (d0 : Dev nD) : Nat :=
  let c0_i32_1215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1214 : BitVec 32 := 1#32
  let v1385 : BitVec 32 := Scalar.muli v13 c1_i32_1214
  let v1386 : BitVec 32 := Scalar.addi c0_i32_1215 v1385
  v1386.toNat
def k0_off30 (d0 : Dev nD) (c0_i32_1218 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1393 : BitVec 32 := Scalar.addi v2 c0_i32_1218
  let c4_i32_1219 : BitVec 32 := 4#32
  let c0_i32_1220 : BitVec 32 := 0#32
  let v1394 : BitVec 1 := Scalar.cmpi .eq c4_i32_1219 c0_i32_1220
  let c1_i32_1221 : BitVec 32 := 1#32
  let v1395 : BitVec 32 := Scalar.select v1394 c1_i32_1221 c4_i32_1219
  let v1396 : BitVec 32 := Scalar.remsi v1393 v1395
  let c0_i32_1223 : BitVec 32 := 0#32
  let v1398 : BitVec 1 := Scalar.cmpi .slt v1396 c0_i32_1223
  let c0_i32_1224 : BitVec 32 := 0#32
  let v1399 : BitVec 1 := Scalar.cmpi .slt v1395 c0_i32_1224
  let v1400 : BitVec 1 := Scalar.xori v1398 v1399
  let c0_i32_1222 : BitVec 32 := 0#32
  let v1397 : BitVec 1 := Scalar.cmpi .ne v1396 c0_i32_1222
  let v1401 : BitVec 1 := Scalar.andi v1400 v1397
  let v1402 : BitVec 32 := Scalar.addi v1396 v1395
  let v1403 : BitVec 32 := Scalar.select v1401 v1402 v1396
  let c1024_i32_1230 : BitVec 32 := 1024#32
  let v1409 : BitVec 32 := Scalar.muli v1403 c1024_i32_1230
  let v1410 : Index := Scalar.indexCast v1409
  let c1536_1231 : Index := 1536#32
  ![v1410.toNat, 1536]
def k0_dev23 (d0 : Dev nD) : Nat :=
  let c0_i32_1270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1269 : BitVec 32 := 1#32
  let v1446 : BitVec 32 := Scalar.muli v24 c1_i32_1269
  let v1447 : BitVec 32 := Scalar.addi c0_i32_1270 v1446
  v1447.toNat
def k0_dev24 (d0 : Dev nD) : Nat :=
  let c0_i32_1326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1325 : BitVec 32 := 1#32
  let v1507 : BitVec 32 := Scalar.muli v13 c1_i32_1325
  let v1508 : BitVec 32 := Scalar.addi c0_i32_1326 v1507
  v1508.toNat
def k0_dev25 (d0 : Dev nD) : Nat :=
  let c0_i32_1382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1381 : BitVec 32 := 1#32
  let v1568 : BitVec 32 := Scalar.muli v24 c1_i32_1381
  let v1569 : BitVec 32 := Scalar.addi c0_i32_1382 v1568
  v1569.toNat
def k0_dev26 (d0 : Dev nD) : Nat :=
  let c0_i32_1438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1437 : BitVec 32 := 1#32
  let v1629 : BitVec 32 := Scalar.muli v13 c1_i32_1437
  let v1630 : BitVec 32 := Scalar.addi c0_i32_1438 v1629
  v1630.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Ring.lean ====
module

public import Mathlib.Data.Fin.Basic
public import Mathlib.Tactic.FinCases

/-!
The four rings. Ring `q` moves column block `q` of the product one device to the right when `q` is even and one device
to the left when `q` is odd; on hop `h` device `c` sends row block `ch q c h` and receives row block `ch q c (h + 1)`.
-/

@[expose] public section

namespace Cert.Ring

/-- Whether ring `q` runs to the right. -/
def even (q : Fin 4) : Bool := q = 0 ∨ q = 2

/-- The device ring `q` sends to from `c`. -/
def dn (q c : Fin 4) : Fin 4 := if even q then c + 1 else c + 3

/-- The device ring `q` receives from at `c`. -/
def up (q c : Fin 4) : Fin 4 := if even q then c + 3 else c + 1

/-- A hop count around the ring of four. -/
def four (h : ℕ) : Fin 4 := ⟨h % 4, Nat.mod_lt _ (by decide)⟩

/-- The row block ring `q` sends from `c` on hop `h`. -/
def ch (q c : Fin 4) (h : ℕ) : Fin 4 := if even q then c - four h else c + four h

/-- The ring that runs the other way round and is paired with `q`. -/
def pt (q : Fin 4) : Fin 4 := if even q then q + 1 else q + 3

/-- How many hops after ring `q` has its block back the paired ring carries the leave to overwrite it. -/
def lag (q : Fin 4) : ℕ := if even q then 2 else 1

/-- The device whose own block of ring `q` is row block `k`. -/
def orig (q k : Fin 4) : Fin 4 := if even q then k + 3 else k + 1

theorem dn_up (q c : Fin 4) : dn q (up q c) = c := by revert q c; decide
theorem up_dn (q c : Fin 4) : up q (dn q c) = c := by revert q c; decide
theorem dn_pt (q c : Fin 4) : dn (pt q) c = up q c := by revert q c; decide
theorem up_pt (q c : Fin 4) : up (pt q) c = dn q c := by revert q c; decide
theorem pt_pt (q : Fin 4) : pt (pt q) = q := by revert q; decide
theorem even_pt (q : Fin 4) : even (pt q) = !even q := by revert q; decide
theorem dn_ne (q c : Fin 4) : dn q c ≠ c := by revert q c; decide

theorem four_add (h : ℕ) : four (h + 1) = four h + 1 := by
  apply Fin.ext
  simp only [four, Fin.val_add]
  show (h + 1) % 4 = (h % 4 + 1 % 4) % 4
  omega

theorem four_period (h : ℕ) : four (h + 4) = four h := by apply Fin.ext; simp only [four]; omega

/-- What a device receives is what the device before it sent. -/
theorem ch_dn (q c : Fin 4) (h : ℕ) : ch q (dn q c) (h + 1) = ch q c h := by
  have key : ∀ q c x : Fin 4, (if even q then dn q c - (x + 1) else dn q c + (x + 1)) = if even q then c - x else c + x := by decide
  unfold ch; rw [four_add]; exact key q c (four h)

theorem ch_up (q c : Fin 4) (h : ℕ) : ch q (up q c) h = ch q c (h + 1) := by
  rw [← ch_dn q (up q c) h, dn_up]

theorem ch_period (q c : Fin 4) (h : ℕ) : ch q c (h + 4) = ch q c h := by unfold ch; rw [four_period]

theorem ch_orig (q k : Fin 4) : ch q (orig q k) 3 = k := by revert q k; decide

theorem orig_ch3 (q c : Fin 4) : orig q (ch q c 3) = c := by revert q c; decide

/-- The owner of the block received on hop `h`, seen from the device before. -/
theorem orig_ch_up (q c : Fin 4) (h : ℕ) : orig q (ch q (up q c) h) = orig q (ch q c (h + 1)) := by rw [ch_up]

/-- The four blocks a device sends on the first four hops are its four row blocks. -/
def chEquiv (q c : Fin 4) : Fin 4 ≃ Fin 4 where
  toFun h := ch q c h.val
  invFun k := if even q then c - k else k - c
  left_inv := by unfold Function.LeftInverse; revert q c; decide
  right_inv := by unfold Function.RightInverse Function.LeftInverse; revert q c; decide

end Cert.Ring
-- ==== Proof.Steps.lean ====
module

public import Idealize.ShloMosaic.Lib.Pipeline.Launch
public import Idealize.ShloMosaic.Lib.Pipeline.Kit
public import Idealize.ShloMosaic.Lib.Memref
public import Idealize.ShloMosaic.Lib.Transfers
public import Idealize.ShloMosaic.Lib.Tactic

/-!
One step of a TensorCore's program on memrefs it owns: a load, a store, a local copy and its wait, each stated on
what the memref reads and not on the contents of the buffer under it.
-/

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl] {Λ : Labels}

variable {defs : Defs nD τ sig Val Λ} (𝒱 : Variants) (c : Dev nD) (bd : Option 𝒱.V)
variable {α : Type} {Q : α → sProp (MT nD τ sig Ix Val Name U Lvl)}
variable {sp sp' : Space} {s s' : Shape} {e : EltTy}

/-- Holding a memref, its points-to at some contents that read so. -/
theorem owns_open (m : Memref sig .tc sp s e) (q : PosShare TreeShare) (X : s.Idx → Val e) :
    (ownsTc c m q X : sProp (MT nD τ sig Ix Val Name U Lvl))
      ⊢ iprop(∃ f, ⌜m.view.read Val f = X⌝ ∗ (m.view.loc (c.tc : Thread nD τ) ↦[m.view.set]{q} f)) := by
  show (owns (c.tc : Thread nD τ) m q X : sProp (MT nD τ sig Ix Val Name U Lvl)) ⊢ _
  unfold owns
  exact .rfl

/-- The converse. -/
theorem owns_close (m : Memref sig .tc sp s e) (q : PosShare TreeShare) (X : s.Idx → Val e)
    (f : m.view.ty.Contents Val) (h : m.view.read Val f = X) :
    (m.view.loc (c.tc : Thread nD τ) ↦[m.view.set]{q} f : sProp (MT nD τ sig Ix Val Name U Lvl)) ⊢ ownsTc c m q X := by
  subst h; exact owns_intro (c.tc : Thread nD τ) m q f

/-- Two halves of a memref owned at the same reading are the whole share of it. -/
theorem owns_halves (m : Memref sig .tc sp s e) (X : s.Idx → Val e) :
    iprop(ownsTc c m fullShare.left X ∗ ownsTc c m fullShare.right X) ⊢ (ownsTc c m fullShare X : sProp (MT nD τ sig Ix Val Name U Lvl)) := by
  iintro ⟨H₁, H₂⟩
  ihave H₁' := (owns_open c m _ X) $$ H₁
  ihave H₂' := (owns_open c m _ X) $$ H₂
  icases H₁' with ⟨%f, %hf, H₁⟩
  icases H₂' with ⟨%g, %hg, H₂⟩
  have hfg : ∀ i ∈ m.view.set, g i = f i := by
    intro i hi
    rw [View.set, Finset.mem_map] at hi
    obtain ⟨x, -, rfl⟩ := hi
    have := congrFun (hg.trans hf.symm) x
    simp only [View.read] at this
    exact (cast_inj _).mp this
  have e : (m.view.loc (c.tc : Thread nD τ) ↦[m.view.set]{fullShare.right} g : sProp (MT nD τ sig Ix Val Name U Lvl))
      = m.view.loc (c.tc : Thread nD τ) ↦[m.view.set]{fullShare.right} f := pointsTo_congr hfg
  ihave H₂ := (Entails.of_eq e) $$ H₂
  iapply (owns_close c m _ X f hf)
  iapply (pointsTo_share (PosShare.mem_left_op_right fullShare)).2
  isplitl [H₁] <;> iassumption

/-- A memref owned is two halves of it. -/
theorem owns_split (m : Memref sig .tc sp s e) (X : s.Idx → Val e) :
    (ownsTc c m fullShare X : sProp (MT nD τ sig Ix Val Name U Lvl)) ⊢ iprop(ownsTc c m fullShare.left X ∗ ownsTc c m fullShare.right X) := by
  iintro H
  ihave H' := (owns_open c m _ X) $$ H
  icases H' with ⟨%f, %hf, H⟩
  ihave H' := (pointsTo_share (PosShare.mem_left_op_right fullShare)).1 $$ H
  icases H' with ⟨H₁, H₂⟩
  isplitl [H₁]
  · iapply (owns_close c m _ X f hf) $$ H₁
  · iapply (owns_close c m _ X f hf) $$ H₂

variable {cs : CoreSpace}

/-- A load of a slice that is owned reads what the slice is owned at. -/
theorem step_load {m : Memref sig .tc cs s e} {r : Rect s} {hr : ∀ a, r.stride a = 1} {q : PosShare TreeShare}
    {X : r.shape.Idx → Val e} {hl : m.view.LoadsAt r.toLoadRect}
    {k : (r.shape.Idx → Val e) → Prog (TpuEff nD τ sig Val Λ .tc) α} :
    (ownsTc c (m.slice r hr) q X : sProp (MT nD τ sig Ix Val Name U Lvl))
      ⊢ iprop((ownsTc c (m.slice r hr) q X -∗ wp frame (wpE defs 𝒱 (c.tc : Thread nD τ) bd) Set.univ (k X) Q)
          -∗ wp frame (wpE defs 𝒱 (c.tc : Thread nD τ) bd) Set.univ (.op (.load m r.toLoadRect hl) k) Q) := by
  iintro H Hk
  ihave H' := (owns_open c _ _ X) $$ H
  icases H' with ⟨%f, %hf, H⟩
  subst hf
  iapply (wp_load_rect 𝒱 (c.tc : Thread nD τ) bd Set.univ (m := m) (r := r) (subset_rfl)) $$ H
  iintro H
  iapply Hk
  iapply (owns_close c (m.slice r hr) q _ f rfl) $$ H

/-- A load of a slice owned through a squeezed view reads its reshape. -/
theorem step_load_sq {m : Memref sig .tc cs s e} {r : Rect s} {hr : ∀ a, r.stride a = 1} {hq : r.shape.Squeezes s'}
    (hc : r.shape.ShapeCasts s') {q : PosShare TreeShare}
    {X : s'.Idx → Val e} {hl : m.view.LoadsAt r.toLoadRect}
    {k : (r.shape.Idx → Val e) → Prog (TpuEff nD τ sig Val Λ .tc) α} :
    (ownsTc c ((m.slice r hr).squeeze s' hq) q X : sProp (MT nD τ sig Ix Val Name U Lvl))
      ⊢ iprop((∀ Y : r.shape.Idx → Val e, iprop(⌜shapeCast s' Y hc = X⌝ -∗ ownsTc c ((m.slice r hr).squeeze s' hq) q X
            -∗ wp frame (wpE defs 𝒱 (c.tc : Thread nD τ) bd) Set.univ (k Y) Q))
          -∗ wp frame (wpE defs 𝒱 (c.tc : Thread nD τ) bd) Set.univ (.op (.load m r.toLoadRect hl) k) Q) := by
  iintro H Hk
  ihave H' := (owns_open c _ _ X) $$ H
  icases H' with ⟨%f, %hf, H⟩
  have hset : (m.access r).set ⊆ ((m.slice r hr).squeeze s' hq).view.set := by
    exact (View.set_reshape (v := m.access r) hq.numel_eq).ge
  iapply (wp_load_rect 𝒱 (c.tc : Thread nD τ) bd Set.univ (m := m) (r := r) hset) $$ H
  iintro H
  iapply Hk $$ %_ []
  · ipureintro; exact hf
  iapply (owns_close c ((m.slice r hr).squeeze s' hq) q _ f hf) $$ H

/-- A store through a slice that is owned: the slice is owned at what was stored. -/
theorem step_store {m : Memref sig .tc cs s e} {r : Rect s} {hr : ∀ a, r.stride a = 1}
    {X w : r.shape.Idx → Val e} {hx : (m.access r).Stores Finset.univ} {hm : Finset.univ = Finset.univ ∨ ∀ a, r.stride a = 1}
    {k : PUnit → Prog (TpuEff nD τ sig Val Λ .tc) α} :
    (ownsTc c (m.slice r hr) fullShare X : sProp (MT nD τ sig Ix Val Name U Lvl))
      ⊢ iprop((ownsTc c (m.slice r hr) fullShare w -∗ wp frame (wpE defs 𝒱 (c.tc : Thread nD τ) bd) Set.univ (k ⟨⟩) Q)
          -∗ wp frame (wpE defs 𝒱 (c.tc : Thread nD τ) bd) Set.univ (.op (.store m r w Finset.univ hx hm) k) Q) := by
  iintro H Hk
  ihave H' := (owns_open c _ _ X) $$ H
  icases H' with ⟨%f, %hf, H⟩
  iapply (wp_store 𝒱 (c.tc : Thread nD τ) bd Set.univ (m := m) (r := r) (S := (m.slice r hr).view.set)
    (by rw [View.setOn_univ])) $$ H
  iintro H
  iapply Hk
  iapply (owns_close c (m.slice r hr) fullShare _ _ (View.read_write_univ (v := m.access r) f w)) $$ H

/-- A store through a slice owned through a squeezed view: the view is owned at the reshape of what was stored. -/
theorem step_store_sq {m : Memref sig .tc cs s e} {r : Rect s} {hr : ∀ a, r.stride a = 1} {hq : r.shape.Squeezes s'}
    (hc : r.shape.ShapeCasts s')
    {X : s'.Idx → Val e} {w : r.shape.Idx → Val e} {hx : (m.access r).Stores Finset.univ}
    {hm : Finset.univ = Finset.univ ∨ ∀ a, r.stride a = 1}
    {k : PUnit → Prog (TpuEff nD τ sig Val Λ .tc) α} :
    (ownsTc c ((m.slice r hr).squeeze s' hq) fullShare X : sProp (MT nD τ sig Ix Val Name U Lvl))
      ⊢ iprop((ownsTc c ((m.slice r hr).squeeze s' hq) fullShare (shapeCast s' w hc)
              -∗ wp frame (wpE defs 𝒱 (c.tc : Thread nD τ) bd) Set.univ (k ⟨⟩) Q)
          -∗ wp frame (wpE defs 𝒱 (c.tc : Thread nD τ) bd) Set.univ (.op (.store m r w Finset.univ hx hm) k) Q) := by
  iintro H Hk
  ihave H' := (owns_open c _ _ X) $$ H
  icases H' with ⟨%f, %hf, H⟩
  have hset : (m.access r).set ⊆ ((m.slice r hr).squeeze s' hq).view.set := by
    exact (View.set_reshape (v := m.access r) hq.numel_eq).ge
  iapply (wp_store 𝒱 (c.tc : Thread nD τ) bd Set.univ (m := m) (r := r) (S := ((m.slice r hr).squeeze s' hq).view.set)
    (by rw [View.setOn_univ]; exact hset)) $$ H
  iintro H
  iapply Hk
  have hread : ((m.slice r hr).squeeze s' hq).view.read Val ((m.access r).write Val f w Finset.univ) = shapeCast s' w hc := by
    show shapeCast s' ((m.access r).read Val ((m.access r).write Val f w Finset.univ)) hc = _
    rw [View.read_write_univ]
  iapply (owns_close c ((m.slice r hr).squeeze s' hq) fullShare _ _ hread) $$ H

variable [Infinite Name] (EC : UEmb Counters (MT nD τ sig Ix Val Name U Lvl)) [EC.LandsIn (upEmb : UEmb _ (MT nD τ sig Ix Val Name U Lvl))]

/-- A local copy between two memrefs that are owned, on a cell at zero. -/
theorem step_copy {src : Memref sig .tc sp s e} {dst : Memref sig .tc sp' s e} {sm : SemLoc sig}
    {hsrc : src.view.WordExact} {hdst : dst.view.WordExact} {hsem : DmaTarget.Typed (nD := nD) (p := .tc) sp sm (.here dst)}
    {k : PUnit → Prog (TpuEff nD τ sig Val Λ .tc) α} {q : PosShare TreeShare} {X Y : s.Idx → Val e}
    (ι : Ix) (N : ℕ) (hN : dst.view.amount sm = N) (hN0 : 0 < N) :
    iprop(ownsTc c src q X ∗ ownsTc c dst fullShare Y ∗ semVal ((c.tc : Thread nD τ), sm) 0)
      ⊢ iprop((Transfers.Flight EC (c.tc : Thread nD τ) sm ι N iprop(ownsTc c dst fullShare X ∗ ownsTc c src q X)
              -∗ wp frame (wpE defs 𝒱 (c.tc : Thread nD τ) bd) Set.univ (k ⟨⟩) Q)
          -∗ wp frame (wpE defs 𝒱 (c.tc : Thread nD τ) bd) Set.univ (.op (.enqueueDma src (.here dst) sm hsrc hdst hsem) k) Q) := by
  iintro ⟨Hs, Hd, Hv⟩ Hk
  ihave Hs' := (owns_open c _ _ X) $$ Hs
  icases Hs' with ⟨%f, %hf, Hs⟩
  ihave Hd' := (owns_open c _ _ Y) $$ Hd
  icases Hd' with ⟨%g, %hg, Hd⟩
  iapply (Transfers.wp_dmaLocal EC 𝒱 (c.tc : Thread nD τ) bd ι N hN hN0 subset_rfl) $$ [Hs Hd Hv]
  · isplitl [Hs]; · iexact Hs
    isplitl [Hd]; · iexact Hd
    iexact Hv
  iintro H
  iapply Hk
  have hread : dst.view.read Val (dst.view.write Val g (ReadAs.same.apply (src.view.read Val f)) Finset.univ) = X := by
    rw [View.read_write_univ]; exact hf
  iapply (Transfers.Flight_mono EC (c.tc : Thread nD τ) (BIClass.sep_mono
    (owns_close c dst fullShare X _ hread) (owns_close c src q X f hf))) $$ H

end Cert.Steps
-- ==== Proof.Ideal.Kit.lean ====
module

public import proofs.«01_k».proof.Proof.Gen.KernelIdeal.Skeleton
public import proofs.«01_k».proof.Proof.Gen.KernelIdeal.Launch
public import proofs.«01_k».proof.Proof.Ring
public import proofs.«01_k».proof.Proof.Steps

/-!
The names of the proof: the views the kernel cuts its buffers into, the semaphores of its hops, and the closed forms of
the offsets and of the device numbers it computes.
-/

@[expose] public section

noncomputable section

namespace Cert.KernelIdeal.Hand

open Cert.KernelIdeal Cert.KernelIdeal.Gen
open Cert.Ring
open Idealize.ShloMosaic
open Idealize.ShloMosaic.TcCoe

/-! ## Offsets -/

/-- Row block `k`, column block `q`. -/
def off (k q : Fin 4) : Fin 2 → ℕ := ![1024 * k.val, 512 * q.val]

/-- Row block `k`, all columns. -/
def rowOff (k : Fin 4) : Fin 2 → ℕ := ![1024 * k.val, 0]

theorem off_inb (k q : Fin 4) (a : Fin 2) : off k q a + S1024x512.size a ≤ S4096x2048.size a := by revert k q a; decide +kernel
theorem rowOff_inb (k : Fin 4) (a : Fin 2) : rowOff k a + S1024x2048.size a ≤ S4096x2048.size a := by revert k a; decide +kernel
theorem xOff_inb (k : Fin 4) (a : Fin 2) : rowOff k a + S1024x1024.size a ≤ S4096x1024.size a := by revert k a; decide +kernel
theorem colOff_inb (q : Fin 4) (a : Fin 2) : off 0 q a + S1024x512.size a ≤ S1024x2048.size a := by revert q a; decide +kernel
theorem rsOff_inb (q : Fin 4) (j : Fin 3) (a : Fin 4) :
    (![q.val, j.val, 0, 0] : Fin 4 → ℕ) a + S1x1x1024x512.size a ≤ S4x3x1024x512.size a := by revert q j a; decide +kernel
theorem xsOff_inb (b : Fin 2) (a : Fin 3) :
    (![b.val, 0, 0] : Fin 3 → ℕ) a + S1x1024x1024.size a ≤ S2x1024x1024.size a := by revert b a; decide +kernel
theorem stOff_inb (b : Fin 2) (a : Fin 3) :
    (![b.val, 0, 0] : Fin 3 → ℕ) a + S1x1024x512.size a ≤ S2x1024x512.size a := by revert b a; decide +kernel

/-! ## Views -/

abbrev blkR (k q : Fin 4) : Rect S4096x2048 := Rect.unit (s := S4096x2048) (off k q) S1024x512.size (off_inb k q)
abbrev rowR (k : Fin 4) : Rect S4096x2048 := Rect.unit (s := S4096x2048) (rowOff k) S1024x2048.size (rowOff_inb k)
abbrev xR (k : Fin 4) : Rect S4096x1024 := Rect.unit (s := S4096x1024) (rowOff k) S1024x1024.size (xOff_inb k)
abbrev colR (q : Fin 4) : Rect S1024x2048 := Rect.unit (s := S1024x2048) (off 0 q) S1024x512.size (colOff_inb q)
abbrev rsR (q : Fin 4) (j : Fin 3) : Rect S4x3x1024x512 :=
  Rect.unit (s := S4x3x1024x512) ![q.val, j.val, 0, 0] S1x1x1024x512.size (rsOff_inb q j)
abbrev xsR (b : Fin 2) : Rect S2x1024x1024 := Rect.unit (s := S2x1024x1024) ![b.val, 0, 0] S1x1024x1024.size (xsOff_inb b)
abbrev stR (b : Fin 2) : Rect S2x1024x512 := Rect.unit (s := S2x1024x512) ![b.val, 0, 0] S1x1024x512.size (stOff_inb b)

/-- Row block `k` of the left operand. -/
abbrev xB (k : Fin 4) : Memref sig .tc .hbm S1024x1024 .f32 := (Memref.whole main_arg0).slice (xR k) (fun _ => rfl)
/-- The right operand in vector memory. -/
abbrev wB : Memref sig .tc .vmem S1024x2048 .f32 := Memref.whole cc0_stg0_0
/-- Slot `b` of the buffer the left operand's row blocks come to. -/
abbrev xsB (b : Fin 2) : Memref sig .tc .vmem S1024x1024 .f32 :=
  ((Memref.whole cc0_scratch0).slice (xsR b) (fun _ => rfl)).squeeze S1024x1024 squeezes_S1x1024x1024_S1024x1024
/-- Row block `k` of the partial products. -/
abbrev rowB (k : Fin 4) : Memref sig .tc .vmem S1024x2048 .bf16 := (Memref.whole cc0_scratch1).slice (rowR k) (fun _ => rfl)
/-- Row block `k`, column block `q` of the partial products. -/
abbrev pb (k q : Fin 4) : Memref sig .tc .vmem S1024x512 .bf16 := (Memref.whole cc0_scratch1).slice (blkR k q) (fun _ => rfl)
/-- What ring `q` receives on hop `j` of the reduce-scatter. -/
abbrev rs (q : Fin 4) (j : Fin 3) : Memref sig .tc .vmem S1024x512 .bf16 :=
  ((Memref.whole cc0_scratch2).slice (rsR q j) (fun _ => rfl)).squeeze S1024x512 squeezes_S1x1x1024x512_S1024x512
/-- Slot `b` of the staging buffer of the result. -/
abbrev stB (b : Fin 2) : Memref sig .tc .vmem S1024x512 .f32 :=
  ((Memref.whole cc0_scratch3).slice (stR b) (fun _ => rfl)).squeeze S1024x512 squeezes_S1x1024x512_S1024x512
/-- Row block `k`, column block `q` of the result. -/
abbrev outB (k q : Fin 4) : Memref sig .tc .hbm S1024x512 .f32 := (Memref.whole main_v1).slice (blkR k q) (fun _ => rfl)

/-! ## Semaphores -/

/-- The runtime's barrier semaphore. -/
abbrev barS : Sem sig := (SemArray.scalar (sig.barrier 0 rfl) : Sems sig S_).sem
/-- The semaphore a device's send on ring `q`, hop `h` completes on. -/
abbrev sndS (q : Fin 4) (h : ℕ) : DmaSem sig := ⟨(7 + 6 * q.val + h) % 55, Nat.mod_lt _ (by decide)⟩
/-- The semaphore its receive on ring `q`, hop `h` completes on. -/
abbrev rcvS (q : Fin 4) (h : ℕ) : DmaSem sig := ⟨(31 + 6 * q.val + h) % 55, Nat.mod_lt _ (by decide)⟩
/-- The semaphores of the loads of the left operand. -/
abbrev ldS (b : Fin 2) : DmaSem sig := ⟨(3 + b.val) % 55, Nat.mod_lt _ (by decide)⟩
/-- The semaphores of the stores of the result. -/
abbrev stS (b : Fin 2) : DmaSem sig := ⟨(5 + b.val) % 55, Nat.mod_lt _ (by decide)⟩

/-- What a copy of one block adds to a semaphore. -/
abbrev N : ℕ := (pb 0 0).view.dmaCredit

theorem N_pos : 0 < N := View.dmaCredit_pos _ (by decide)

theorem amount_pb (k q : Fin 4) : (pb k q).view.dmaCredit = N := rfl
theorem amount_rs (q : Fin 4) (j : Fin 3) : (rs q j).view.dmaCredit = N := rfl

/-! ## What the kernel computes: rows, blocks, neighbours -/

theorem off1_eq (c : Dev nD) : k0_off1 c = rowOff c := by revert c; decide +kernel
theorem off2_eq (c : Dev nD) : k0_off2 c = rowOff (c + 3) := by revert c; decide +kernel
theorem off3_eq (c : Dev nD) : k0_off3 c = rowOff c := by revert c; decide +kernel
theorem off8_eq (c : Dev nD) (r : Fin 2) : k0_off8 c (BitVec.ofNat 32 (1 + r.val)) = rowOff (c + four (1 + r.val)) := by
  revert c r; decide +kernel
theorem off9_eq (c : Dev nD) : k0_off9 c = rowOff (c + 3) := by revert c; decide +kernel
theorem off10_eq (c : Dev nD) (r : Fin 2) : k0_off10 c (BitVec.ofNat 32 (1 + r.val)) = rowOff (c + four (1 + r.val)) := by
  revert c r; decide +kernel
theorem off4_eq (c : Dev nD) (r : Fin 3) : k0_off4 c (BitVec.ofNat 32 r.val) = off (ch 0 c (r.val)) 0 := by revert c r; decide +kernel
theorem off5_eq (c : Dev nD) (r : Fin 3) : k0_off5 c (BitVec.ofNat 32 r.val) = off (ch 1 c (r.val)) 1 := by revert c r; decide +kernel
theorem off6_eq (c : Dev nD) (r : Fin 3) : k0_off6 c (BitVec.ofNat 32 r.val) = off (ch 2 c (r.val)) 2 := by revert c r; decide +kernel
theorem off7_eq (c : Dev nD) (r : Fin 3) : k0_off7 c (BitVec.ofNat 32 r.val) = off (ch 3 c (r.val)) 3 := by revert c r; decide +kernel
theorem off11_eq (c : Dev nD) (r : Fin 3) : k0_off11 c (BitVec.ofNat 32 r.val) = off (ch 0 c (r.val + 1)) 0 := by revert c r; decide +kernel
theorem off12_eq (c : Dev nD) (r : Fin 3) : k0_off12 c (BitVec.ofNat 32 r.val) = off (ch 1 c (r.val + 1)) 1 := by revert c r; decide +kernel
theorem off13_eq (c : Dev nD) (r : Fin 3) : k0_off13 c (BitVec.ofNat 32 r.val) = off (ch 2 c (r.val + 1)) 2 := by revert c r; decide +kernel
theorem off14_eq (c : Dev nD) (r : Fin 3) : k0_off14 c (BitVec.ofNat 32 r.val) = off (ch 3 c (r.val + 1)) 3 := by revert c r; decide +kernel
theorem off15_eq (c : Dev nD) : k0_off15 c = off (ch 0 c 3) 0 := by revert c; decide +kernel
theorem off16_eq (c : Dev nD) : k0_off16 c = off (ch 1 c 3) 1 := by revert c; decide +kernel
theorem off17_eq (c : Dev nD) : k0_off17 c = off (ch 2 c 3) 2 := by revert c; decide +kernel
theorem off18_eq (c : Dev nD) : k0_off18 c = off (ch 3 c 3) 3 := by revert c; decide +kernel
theorem off19_eq (c : Dev nD) (r : Fin 3) : k0_off19 c (BitVec.ofNat 32 r.val) = off (ch 0 c (3 + r.val)) 0 := by revert c r; decide +kernel
theorem off20_eq (c : Dev nD) (r : Fin 3) : k0_off20 c (BitVec.ofNat 32 r.val) = off (ch 1 c (3 + r.val)) 1 := by revert c r; decide +kernel
theorem off21_eq (c : Dev nD) (r : Fin 3) : k0_off21 c (BitVec.ofNat 32 r.val) = off (ch 2 c (3 + r.val)) 2 := by revert c r; decide +kernel
theorem off22_eq (c : Dev nD) (r : Fin 3) : k0_off22 c (BitVec.ofNat 32 r.val) = off (ch 3 c (3 + r.val)) 3 := by revert c r; decide +kernel
theorem off23_eq (c : Dev nD) : k0_off23 c = off (ch 0 c 3) 0 := by revert c; decide +kernel
theorem off24_eq (c : Dev nD) : k0_off24 c = off (ch 1 c 3) 1 := by revert c; decide +kernel
theorem off25_eq (c : Dev nD) : k0_off25 c = off (ch 2 c 3) 2 := by revert c; decide +kernel
theorem off26_eq (c : Dev nD) : k0_off26 c = off (ch 3 c 3) 3 := by revert c; decide +kernel
theorem off27_eq (c : Dev nD) (r : Fin 3) : k0_off27 c (BitVec.ofNat 32 r.val) = off (ch 0 c (3 + r.val + 1)) 0 := by revert c r; decide +kernel
theorem off28_eq (c : Dev nD) (r : Fin 3) : k0_off28 c (BitVec.ofNat 32 r.val) = off (ch 1 c (3 + r.val + 1)) 1 := by revert c r; decide +kernel
theorem off29_eq (c : Dev nD) (r : Fin 3) : k0_off29 c (BitVec.ofNat 32 r.val) = off (ch 2 c (3 + r.val + 1)) 2 := by revert c r; decide +kernel
theorem off30_eq (c : Dev nD) (r : Fin 3) : k0_off30 c (BitVec.ofNat 32 r.val) = off (ch 3 c (3 + r.val + 1)) 3 := by revert c r; decide +kernel
theorem dev1_eq (c : Dev nD) : (⟨k0_dev1 c, k0_dev1_lt c⟩ : Dev nD) = c + 3 := by revert c; decide +kernel
theorem dev2_eq (c : Dev nD) : (⟨k0_dev2 c, k0_dev2_lt c⟩ : Dev nD) = c + 1 := by revert c; decide +kernel
theorem dev3_eq (c : Dev nD) : (⟨k0_dev3 c, k0_dev3_lt c⟩ : Dev nD) = dn 0 c := by revert c; decide +kernel
theorem dev4_eq (c : Dev nD) : (⟨k0_dev4 c, k0_dev4_lt c⟩ : Dev nD) = dn 1 c := by revert c; decide +kernel
theorem dev5_eq (c : Dev nD) : (⟨k0_dev5 c, k0_dev5_lt c⟩ : Dev nD) = dn 2 c := by revert c; decide +kernel
theorem dev6_eq (c : Dev nD) : (⟨k0_dev6 c, k0_dev6_lt c⟩ : Dev nD) = dn 3 c := by revert c; decide +kernel
theorem dev7_eq (c : Dev nD) : (⟨k0_dev7 c, k0_dev7_lt c⟩ : Dev nD) = dn 0 c := by revert c; decide +kernel
theorem dev8_eq (c : Dev nD) : (⟨k0_dev8 c, k0_dev8_lt c⟩ : Dev nD) = dn 1 c := by revert c; decide +kernel
theorem dev9_eq (c : Dev nD) : (⟨k0_dev9 c, k0_dev9_lt c⟩ : Dev nD) = dn 2 c := by revert c; decide +kernel
theorem dev10_eq (c : Dev nD) : (⟨k0_dev10 c, k0_dev10_lt c⟩ : Dev nD) = dn 3 c := by revert c; decide +kernel
theorem dev11_eq (c : Dev nD) : (⟨k0_dev11 c, k0_dev11_lt c⟩ : Dev nD) = dn 0 c := by revert c; decide +kernel
theorem dev12_eq (c : Dev nD) : (⟨k0_dev12 c, k0_dev12_lt c⟩ : Dev nD) = dn 1 c := by revert c; decide +kernel
theorem dev13_eq (c : Dev nD) : (⟨k0_dev13 c, k0_dev13_lt c⟩ : Dev nD) = dn 2 c := by revert c; decide +kernel
theorem dev14_eq (c : Dev nD) : (⟨k0_dev14 c, k0_dev14_lt c⟩ : Dev nD) = dn 3 c := by revert c; decide +kernel
theorem dev15_eq (c : Dev nD) : (⟨k0_dev15 c, k0_dev15_lt c⟩ : Dev nD) = dn 0 c := by revert c; decide +kernel
theorem dev16_eq (c : Dev nD) : (⟨k0_dev16 c, k0_dev16_lt c⟩ : Dev nD) = dn 1 c := by revert c; decide +kernel
theorem dev17_eq (c : Dev nD) : (⟨k0_dev17 c, k0_dev17_lt c⟩ : Dev nD) = dn 2 c := by revert c; decide +kernel
theorem dev18_eq (c : Dev nD) : (⟨k0_dev18 c, k0_dev18_lt c⟩ : Dev nD) = dn 3 c := by revert c; decide +kernel
theorem dev19_eq (c : Dev nD) : (⟨k0_dev19 c, k0_dev19_lt c⟩ : Dev nD) = dn 0 c := by revert c; decide +kernel
theorem dev20_eq (c : Dev nD) : (⟨k0_dev20 c, k0_dev20_lt c⟩ : Dev nD) = dn 1 c := by revert c; decide +kernel
theorem dev21_eq (c : Dev nD) : (⟨k0_dev21 c, k0_dev21_lt c⟩ : Dev nD) = dn 2 c := by revert c; decide +kernel
theorem dev22_eq (c : Dev nD) : (⟨k0_dev22 c, k0_dev22_lt c⟩ : Dev nD) = dn 3 c := by revert c; decide +kernel
theorem dev23_eq (c : Dev nD) : (⟨k0_dev23 c, k0_dev23_lt c⟩ : Dev nD) = dn 0 c := by revert c; decide +kernel
theorem dev24_eq (c : Dev nD) : (⟨k0_dev24 c, k0_dev24_lt c⟩ : Dev nD) = dn 1 c := by revert c; decide +kernel
theorem dev25_eq (c : Dev nD) : (⟨k0_dev25 c, k0_dev25_lt c⟩ : Dev nD) = dn 2 c := by revert c; decide +kernel
theorem dev26_eq (c : Dev nD) : (⟨k0_dev26 c, k0_dev26_lt c⟩ : Dev nD) = dn 3 c := by revert c; decide +kernel

end Cert.KernelIdeal.Hand
-- ==== Proof.Rects.lean ====
module

public import proofs.«01_k».proof.Proof.Steps

/-!
A buffer as the family of the slices it is cut into, at contents known or not.
-/

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl]

variable (c : Dev nD) {sp : Space} {s s' : Shape} {e : EltTy}

/-- A memref owned at contents not named. -/
def anyOwn (m : Memref sig .tc sp s e) : sProp (MT nD τ sig Ix Val Name U Lvl) :=
  iprop(∃ X, ownsTc c m fullShare X)

instance anyOwn_storable (m : Memref sig .tc sp s e) :
    BI.Storable (upEmb : UEmb _ (MT nD τ sig Ix Val Name U Lvl)) (anyOwn (Ix := Ix) (Val := Val) (Name := Name) (U := U) (Lvl := Lvl) c m) := by
  unfold anyOwn; infer_instance

theorem anyOwn_intro (m : Memref sig .tc sp s e) (X : s.Idx → Val e) :
    (ownsTc c m fullShare X : sProp (MT nD τ sig Ix Val Name U Lvl)) ⊢ anyOwn c m := by
  unfold anyOwn; iintro H; iexists X; iexact H

theorem anyOwn_elim (m : Memref sig .tc sp s e) :
    (anyOwn c m : sProp (MT nD τ sig Ix Val Name U Lvl)) ⊢ iprop(∃ X, ownsTc c m fullShare X) := by
  unfold anyOwn; exact .rfl

/-- Dropping the axes of size one changes nothing of what is owned. -/
theorem anyOwn_squeeze (m : Memref sig .tc sp s e) (hq : s.Squeezes s') :
    (anyOwn c (m.squeeze s' hq) : sProp (MT nD τ sig Ix Val Name U Lvl)) ⊣⊢ anyOwn c m := by
  have hset : (m.squeeze s' hq).view.set = m.view.set := View.set_reshape (v := m.view) hq.numel_eq
  constructor
  · iintro H
    ihave H' := (anyOwn_elim c _) $$ H
    icases H' with ⟨%X, H⟩
    ihave H' := (owns_open c _ _ X) $$ H
    icases H' with ⟨%f, %hf, H⟩
    ihave H := (show ((m.squeeze s' hq).view.loc (c.tc : Thread nD τ) ↦[(m.squeeze s' hq).view.set]{fullShare} f
      : sProp (MT nD τ sig Ix Val Name U Lvl)) ⊢ (m.view.loc (c.tc : Thread nD τ) ↦[m.view.set]{fullShare} f) from Entails.of_eq (by rw [← hset])) $$ H
    iapply (anyOwn_intro c m (m.view.read Val f))
    iapply (owns_close c m _ _ f rfl) $$ H
  · iintro H
    ihave H' := (anyOwn_elim c _) $$ H
    icases H' with ⟨%X, H⟩
    ihave H' := (owns_open c _ _ X) $$ H
    icases H' with ⟨%f, %hf, H⟩
    ihave H := (show (m.view.loc (c.tc : Thread nD τ) ↦[m.view.set]{fullShare} f
      : sProp (MT nD τ sig Ix Val Name U Lvl)) ⊢ ((m.squeeze s' hq).view.loc (c.tc : Thread nD τ) ↦[(m.squeeze s' hq).view.set]{fullShare} f) from Entails.of_eq (by rw [← hset])) $$ H
    iapply (anyOwn_intro c (m.squeeze s' hq) ((m.squeeze s' hq).view.read Val f))
    iapply (owns_close c (m.squeeze s' hq) _ _ f rfl) $$ H

section Family

variable {T : Type} [Fintype T] [DecidableEq T] (b : Ref sig .tc) (r : T → Rect b.ty.shape) (hr : ∀ t a, (r t).stride a = 1)
  (hd : ∀ t t', t ≠ t' → Disjoint (r t).set (r t').set)
  (hcov : (Finset.univ : Finset T).biUnion (fun t => (r t).set) = Finset.univ)
include hd hcov

/-- A buffer at contents `f` is its slices, each at its part of `f`. -/
theorem whole_slices (q : PosShare TreeShare) (f : b.ty.Contents Val) :
    (((c : Thread nD τ).loc b) ↦{q} f : sProp (MT nD τ sig Ix Val Name U Lvl))
      ⊢ bigSep Finset.univ fun t => ownsTc c ((Memref.whole b).slice (r t) (hr t)) q (fun j => f ((r t).emb j)) := by
  rw [← owns_whole (c : Thread nD τ) b q f]
  exact owns_rects (c : Thread nD τ) (Memref.whole b) q r hr hd hcov f

/-- The converse. -/
theorem slices_whole [∀ e, Nonempty (Val e)] (q : PosShare TreeShare) (f : b.ty.Contents Val) :
    (bigSep Finset.univ fun t => ownsTc c ((Memref.whole b).slice (r t) (hr t)) q (fun j => f ((r t).emb j)))
      ⊢ (((c : Thread nD τ).loc b) ↦{q} f : sProp (MT nD τ sig Ix Val Name U Lvl)) := by
  rw [← owns_whole (c : Thread nD τ) b q f]
  exact owns_of_rects (c : Thread nD τ) (Memref.whole b) q r hr hd hcov f

/-- A buffer at contents not named is its slices at contents not named. -/
theorem any_slices :
    iprop(∃ f, (((c : Thread nD τ).loc b) ↦{fullShare} f : sProp (MT nD τ sig Ix Val Name U Lvl)))
      ⊢ bigSep Finset.univ fun t => anyOwn c ((Memref.whole b).slice (r t) (hr t)) := by
  iintro ⟨%f, H⟩
  iapply (show (bigSep Finset.univ fun t => ownsTc c ((Memref.whole b).slice (r t) (hr t)) fullShare (fun j => f ((r t).emb j)))
    ⊢ (bigSep Finset.univ fun t => anyOwn c ((Memref.whole b).slice (r t) (hr t)) : sProp (MT nD τ sig Ix Val Name U Lvl))
    from bigSep_mono fun t _ => anyOwn_intro c _ _)
  iapply (whole_slices c b r hr hd hcov fullShare f) $$ H

/-- The converse. -/
theorem slices_any [∀ e, Nonempty (Val e)] :
    (bigSep Finset.univ fun t => anyOwn c ((Memref.whole b).slice (r t) (hr t)))
      ⊢ iprop(∃ f, (((c : Thread nD τ).loc b) ↦{fullShare} f : sProp (MT nD τ sig Ix Val Name U Lvl))) := by
  iintro H
  ihave H := (show (bigSep Finset.univ fun t => anyOwn c ((Memref.whole b).slice (r t) (hr t)))
    ⊢ (iprop(∃ Y : (t : T) → (r t).shape.Idx → Val b.ty.elt, bigSep Finset.univ fun t => ownsTc c ((Memref.whole b).slice (r t) (hr t)) fullShare (Y t))
      : sProp (MT nD τ sig Ix Val Name U Lvl)) from by
    unfold anyOwn; exact bigSep_exists_pi _ _) $$ H
  icases H with ⟨%Y, H⟩
  iexists Rect.glue r hcov Y
  iapply (slices_whole c b r hr hd hcov fullShare (Rect.glue r hcov Y))
  have e : (bigSep Finset.univ fun t => ownsTc c ((Memref.whole b).slice (r t) (hr t)) fullShare (Y t))
      = (bigSep Finset.univ fun t => ownsTc c ((Memref.whole b).slice (r t) (hr t)) fullShare (fun j => Rect.glue r hcov Y ((r t).emb j))
        : sProp (MT nD τ sig Ix Val Name U Lvl)) :=
    bigSep_congr fun t _ => by congr 1; funext j; rw [Rect.glue_emb r hcov hd Y t j]
  iapply (Entails.of_eq e) $$ H

end Family

end Cert.Steps
-- ==== Proof.Ideal.Blocks.lean ====
module

public import proofs.«01_k».proof.Proof.Ideal.Kit
public import proofs.«01_k».proof.Proof.Rects

/-!
How the kernel cuts its buffers: the families of slices are disjoint and cover, and a row block of the partial products
is its four column blocks.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The families -/

abbrev blkF (t : Fin 4 × Fin 4) : Rect S4096x2048 := blkR t.1 t.2
abbrev rsF (t : Fin 4 × Fin 3) : Rect S4x3x1024x512 := rsR t.1 t.2

theorem mem_blkR (k q : Fin 4) (i : S4096x2048.Idx) :
    i ∈ (blkR k q).set ↔ (i 0).val / 1024 = k.val ∧ (i 1).val / 512 = q.val := by
  rw [Rect.mem_set_unit]
  constructor
  · intro h
    have h0 := h 0; have h1 := h 1
    change 1024 * k.val ≤ (i 0).val ∧ (i 0).val < 1024 * k.val + 1024 at h0
    change 512 * q.val ≤ (i 1).val ∧ (i 1).val < 512 * q.val + 512 at h1
    omega
  · rintro ⟨h0, h1⟩ a
    fin_cases a
    · show 1024 * k.val ≤ (i 0).val ∧ (i 0).val < 1024 * k.val + 1024
      omega
    · show 512 * q.val ≤ (i 1).val ∧ (i 1).val < 512 * q.val + 512
      omega

theorem mem_rowR (k : Fin 4) (i : S4096x2048.Idx) : i ∈ (rowR k).set ↔ (i 0).val / 1024 = k.val := by
  have hi : (i 1).val < 2048 := (i 1).isLt
  rw [Rect.mem_set_unit]
  constructor
  · intro h
    have h0 := h 0
    change 1024 * k.val ≤ (i 0).val ∧ (i 0).val < 1024 * k.val + 1024 at h0
    omega
  · rintro h0 a
    fin_cases a
    · show 1024 * k.val ≤ (i 0).val ∧ (i 0).val < 1024 * k.val + 1024
      omega
    · show 0 ≤ (i 1).val ∧ (i 1).val < 0 + 2048
      omega

theorem mem_xR (k : Fin 4) (i : S4096x1024.Idx) : i ∈ (xR k).set ↔ (i 0).val / 1024 = k.val := by
  have hi : (i 1).val < 1024 := (i 1).isLt
  rw [Rect.mem_set_unit]
  constructor
  · intro h
    have h0 := h 0
    change 1024 * k.val ≤ (i 0).val ∧ (i 0).val < 1024 * k.val + 1024 at h0
    omega
  · rintro h0 a
    fin_cases a
    · show 1024 * k.val ≤ (i 0).val ∧ (i 0).val < 1024 * k.val + 1024
      omega
    · show 0 ≤ (i 1).val ∧ (i 1).val < 0 + 1024
      omega

theorem mem_rsR (q : Fin 4) (j : Fin 3) (i : S4x3x1024x512.Idx) :
    i ∈ (rsR q j).set ↔ (i 0).val = q.val ∧ (i 1).val = j.val := by
  have h2 : (i 2).val < 1024 := (i 2).isLt
  have h3 : (i 3).val < 512 := (i 3).isLt
  rw [Rect.mem_set_unit]
  constructor
  · intro h
    have h0 := h 0; have h1 := h 1
    change q.val ≤ (i 0).val ∧ (i 0).val < q.val + 1 at h0
    change j.val ≤ (i 1).val ∧ (i 1).val < j.val + 1 at h1
    omega
  · rintro ⟨h0, h1⟩ a
    fin_cases a
    · show q.val ≤ (i 0).val ∧ (i 0).val < q.val + 1
      omega
    · show j.val ≤ (i 1).val ∧ (i 1).val < j.val + 1
      omega
    · show 0 ≤ (i 2).val ∧ (i 2).val < 0 + 1024
      omega
    · show 0 ≤ (i 3).val ∧ (i 3).val < 0 + 512
      omega

theorem mem_xsR (b : Fin 2) (i : S2x1024x1024.Idx) : i ∈ (xsR b).set ↔ (i 0).val = b.val := by
  have h1 : (i 1).val < 1024 := (i 1).isLt
  have h2 : (i 2).val < 1024 := (i 2).isLt
  rw [Rect.mem_set_unit]
  constructor
  · intro h
    have h0 := h 0
    change b.val ≤ (i 0).val ∧ (i 0).val < b.val + 1 at h0
    omega
  · rintro h0 a
    fin_cases a
    · show b.val ≤ (i 0).val ∧ (i 0).val < b.val + 1
      omega
    · show 0 ≤ (i 1).val ∧ (i 1).val < 0 + 1024
      omega
    · show 0 ≤ (i 2).val ∧ (i 2).val < 0 + 1024
      omega

theorem mem_stR (b : Fin 2) (i : S2x1024x512.Idx) : i ∈ (stR b).set ↔ (i 0).val = b.val := by
  have h1 : (i 1).val < 1024 := (i 1).isLt
  have h2 : (i 2).val < 512 := (i 2).isLt
  rw [Rect.mem_set_unit]
  constructor
  · intro h
    have h0 := h 0
    change b.val ≤ (i 0).val ∧ (i 0).val < b.val + 1 at h0
    omega
  · rintro h0 a
    fin_cases a
    · show b.val ≤ (i 0).val ∧ (i 0).val < b.val + 1
      omega
    · show 0 ≤ (i 1).val ∧ (i 1).val < 0 + 1024
      omega
    · show 0 ≤ (i 2).val ∧ (i 2).val < 0 + 512
      omega

/-- A family is disjoint and covers when every index has exactly one member. -/
theorem family_of_key {s : Shape} {T : Type} [Fintype T] [DecidableEq T] (r : T → Rect s) (key : s.Idx → T)
    (h : ∀ t i, i ∈ (r t).set ↔ key i = t) :
    (∀ t t', t ≠ t' → Disjoint (r t).set (r t').set) ∧ (Finset.univ : Finset T).biUnion (fun t => (r t).set) = Finset.univ := by
  constructor
  · intro t t' hne
    rw [Finset.disjoint_left]
    intro i hi hi'
    exact hne (((h t i).mp hi).symm.trans ((h t' i).mp hi'))
  · ext i
    simp only [Finset.mem_biUnion, Finset.mem_univ, true_and, iff_true]
    exact ⟨key i, (h (key i) i).mpr rfl⟩

theorem blk_family : (∀ t t', t ≠ t' → Disjoint (blkF t).set (blkF t').set) ∧ (Finset.univ : Finset (Fin 4 × Fin 4)).biUnion (fun t => (blkF t).set) = Finset.univ :=
  family_of_key blkF (fun i => (⟨(i 0).val / 1024, by have : (i 0).val < 4096 := (i 0).isLt; omega⟩, ⟨(i 1).val / 512, by have : (i 1).val < 2048 := (i 1).isLt; omega⟩))
    fun t i => by rw [mem_blkR]; simp only [Prod.ext_iff, Fin.ext_iff]

theorem row_family : (∀ t t', t ≠ t' → Disjoint (rowR t).set (rowR t').set) ∧ (Finset.univ : Finset (Fin 4)).biUnion (fun t => (rowR t).set) = Finset.univ :=
  family_of_key rowR (fun i => ⟨(i 0).val / 1024, by have : (i 0).val < 4096 := (i 0).isLt; omega⟩)
    fun t i => by rw [mem_rowR]; simp only [Fin.ext_iff]

theorem x_family : (∀ t t', t ≠ t' → Disjoint (xR t).set (xR t').set) ∧ (Finset.univ : Finset (Fin 4)).biUnion (fun t => (xR t).set) = Finset.univ :=
  family_of_key xR (fun i => ⟨(i 0).val / 1024, by have : (i 0).val < 4096 := (i 0).isLt; omega⟩)
    fun t i => by rw [mem_xR]; simp only [Fin.ext_iff]

theorem rs_family : (∀ t t', t ≠ t' → Disjoint (rsF t).set (rsF t').set) ∧ (Finset.univ : Finset (Fin 4 × Fin 3)).biUnion (fun t => (rsF t).set) = Finset.univ :=
  family_of_key rsF (fun i => (i 0, i 1)) fun t i => by rw [mem_rsR]; exact ⟨fun h => Prod.ext (Fin.ext h.1) (Fin.ext h.2), fun h => by subst h; exact ⟨rfl, rfl⟩⟩

theorem xs_family : (∀ t t', t ≠ t' → Disjoint (xsR t).set (xsR t').set) ∧ (Finset.univ : Finset (Fin 2)).biUnion (fun t => (xsR t).set) = Finset.univ :=
  family_of_key xsR (fun i => i 0) fun t i => by rw [mem_xsR]; exact ⟨fun h => Fin.ext h, fun h => by subst h; rfl⟩

theorem st_family : (∀ t t', t ≠ t' → Disjoint (stR t).set (stR t').set) ∧ (Finset.univ : Finset (Fin 2)).biUnion (fun t => (stR t).set) = Finset.univ :=
  family_of_key stR (fun i => i 0) fun t i => by rw [mem_stR]; exact ⟨fun h => Fin.ext h, fun h => by subst h; rfl⟩

theorem mem_colR (q : Fin 4) (i : S1024x2048.Idx) : i ∈ (colR q).set ↔ (i 1).val / 512 = q.val := by
  have hi : (i 0).val < 1024 := (i 0).isLt
  rw [Rect.mem_set_unit]
  constructor
  · intro h
    have h1 := h 1
    change 512 * q.val ≤ (i 1).val ∧ (i 1).val < 512 * q.val + 512 at h1
    omega
  · rintro h0 a
    fin_cases a
    · show 1024 * 0 ≤ (i 0).val ∧ (i 0).val < 1024 * 0 + 1024
      omega
    · show 512 * q.val ≤ (i 1).val ∧ (i 1).val < 512 * q.val + 512
      omega

theorem col_family : (∀ t t', t ≠ t' → Disjoint (colR t).set (colR t').set) ∧ (Finset.univ : Finset (Fin 4)).biUnion (fun t => (colR t).set) = Finset.univ :=
  family_of_key colR (fun i => ⟨(i 1).val / 512, by have : (i 1).val < 2048 := (i 1).isLt; omega⟩)
    fun t i => by rw [mem_colR]; simp only [Fin.ext_iff]

/-! ## A row block and its column blocks -/

theorem blk_emb (k q : Fin 4) (j : S1024x512.Idx) : (blkR k q).emb j = (rowR k).emb ((colR q).emb j) := by
  funext a
  apply Fin.ext
  fin_cases a
  · show 1024 * k.val + 1 * (j 0).val = 1024 * k.val + 1 * (1024 * 0 + 1 * (j 0).val)
    omega
  · show 512 * q.val + 1 * (j 1).val = 0 + 1 * (512 * q.val + 1 * (j 1).val)
    omega

theorem blk_emb' (k q : Fin 4) : (blkR k q).emb = (colR q).emb.trans (rowR k).emb := by
  ext1 j; exact blk_emb k q j

section Row

variable {F : FTy → Type} {U : Type} [URA U]

local notation "𝕄" => MT nD τ sig Unit (Elt F) ℕ U ℕ

/-- A column block of a row block is a block of the array. -/
theorem row_col_blk (c : Dev nD) (k q : Fin 4) (sh : PosShare TreeShare) (X : S1024x512.Idx → Elt F .bf16) :
    (ownsTc c ((rowB k).slice (colR q) (fun _ => rfl)) sh X : sProp 𝕄) ⊢ ownsTc c (pb k q) sh X := by
  have he : ((rowB k).slice (colR q) (fun _ => rfl)).view.emb = (pb k q).view.emb := by
    show (colR q).emb.trans ((rowR k).emb.trans (View.whole cc0_scratch1).emb) = (blkR k q).emb.trans (View.whole cc0_scratch1).emb
    rw [blk_emb']; rfl
  have hset : ((rowB k).slice (colR q) (fun _ => rfl)).view.set = (pb k q).view.set := by
    unfold View.set; rw [he]
  iintro H
  ihave H' := (owns_open c _ _ X) $$ H
  icases H' with ⟨%f, %hf, H⟩
  iapply (owns_close c (pb k q) sh X f (by
    rw [← hf]; funext j
    show f ((pb k q).view.emb j) = f (((rowB k).slice (colR q) (fun _ => rfl)).view.emb j)
    rw [he]))
  iapply (Entails.of_eq (show ((((rowB k).slice (colR q) (fun _ => rfl)).view.loc (c.tc : Thread nD τ) ↦[((rowB k).slice (colR q) (fun _ => rfl)).view.set]{sh} f : sProp 𝕄))
     = ((pb k q).view.loc (c.tc : Thread nD τ) ↦[(pb k q).view.set]{sh} f) from by rw [hset])) $$ H

/-- A row block owned is its four column blocks. -/
theorem row_blocks (c : Dev nD) (k : Fin 4) (sh : PosShare TreeShare) (X : S1024x2048.Idx → Elt F .bf16) :
    (ownsTc c (rowB k) sh X : sProp 𝕄) ⊢ bigSep Finset.univ fun q => ownsTc c (pb k q) sh (fun j => X ((colR q).emb j)) := by
  iintro H
  ihave H := (owns_rects (c : Thread nD τ) (rowB k) sh colR (fun _ _ => rfl) col_family.1 col_family.2 X) $$ H
  iapply (show (bigSep Finset.univ fun q => owns (c : Thread nD τ) ((rowB k).slice (colR q) (fun _ => rfl)) sh (fun j => X ((colR q).emb j)) : sProp 𝕄)
    ⊢ _ from bigSep_mono fun q _ => row_col_blk c k q sh _) $$ H

end Row

end Cert.KernelIdeal.Hand
-- ==== Proof.Ideal.Contents.lean ====
module

public import proofs.«01_k».proof.Proof.Ideal.Blocks
public import Idealize.ShloMosaic.Lib.Pipeline.Value

/-!
What the kernel's buffers hold, from the memory at launch: the partial products, the sums as they travel, the scaled
and cut blocks, the result.
-/

@[expose] public section

noncomputable section

namespace Cert.KernelIdeal.Hand

open Cert.KernelIdeal Cert.KernelIdeal.Gen
open Cert.Ring Cert.Steps
open Idealize.ShloMosaic
open Idealize.ShloMosaic.TcCoe

variable {F : FTy → Type} [FloatOps F]
variable (m : (ℓ : Loc nD τ sig) → Buf (Elt F) ℓ)

/-- Row block `k` of device `c`'s left operand. -/
def xrow (c : Dev nD) (k : Fin 4) : FVec F S1024x1024 .f32 := fun j => m ((c : Thread nD τ).loc main_arg0) ((xR k).emb j)

/-- Device `c`'s right operand and the two scales, as staged. -/
def wst (c : Dev nD) : (cc0_stg0_0 : Ref sig .tc).ty.Contents (Elt F) :=
  (win0_0.blk (0 : Fin 1)).view.read (Elt F) (m ((c : Thread nD τ).loc main_arg1))
def sxst (c : Dev nD) : (cc0_stg1_0 : Ref sig .tc).ty.Contents (Elt F) :=
  (win0_1.blk (0 : Fin 1)).view.read (Elt F) (m ((c : Thread nD τ).loc main_arg2))
def swst (c : Dev nD) : (cc0_stg2_0 : Ref sig .tc).ty.Contents (Elt F) :=
  (win0_2.blk (0 : Fin 1)).view.read (Elt F) (m ((c : Thread nD τ).loc main_arg3))

/-- Device `c`'s partial product of row block `k`. -/
def prod (c : Dev nD) (k : Fin 4) : FVec F S1024x2048 .bf16 := k0_pay2 (xrow m c k) (wst m c)

/-- Its column block `q`. -/
def P (q c k : Fin 4) : FVec F S1024x512 .bf16 := fun j => prod m c k ((colR q).emb j)

/-- One step of the sum. -/
def accum (a r : FVec F S1024x512 .bf16) : FVec F S1024x512 .bf16 :=
  shapeCast S1024x512 (addf a r) shapeCasts_S1024x512_S1024x512

/-- The sum device `c` holds of the row block ring `q` sends on hop `h`. -/
def A (q : Fin 4) : ℕ → Fin 4 → FVec F S1024x512 .bf16
  | 0, c => P m q c (ch q c 0)
  | h + 1, c => accum (P m q c (ch q c (h + 1))) (A q h (up q c))

/-- The one index of a one-element vector. -/
def i1 : S1.Idx := Shape.Idx.first (by decide)

theorem idx1_eq (i : S1.Idx) : i = i1 := by
  funext a
  apply Fin.ext
  have h : ∀ j : S1.Idx, (j a).val = 0 := fun j => by
    have := (j a).isLt
    fin_cases a
    change (j 0).val < 1 at this
    show (j 0).val = 0
    omega
  rw [h i, h i1]

/-- The product of the two scales. -/
def scale (c : Dev nD) : F .bf16 := k0_pay20 (sxst m c i1) (swst m c i1)

/-- A finished sum scaled, its negative entries cut to zero. -/
def relu (s : F .bf16) (a : FVec F S1024x512 .bf16) : FVec F S1024x512 .bf16 := k0_pay22 a (broadcast S1024x512 s)

/-- Ring `q`'s finished block on its owner `c`. -/
def O (q c : Fin 4) : FVec F S1024x512 .bf16 := relu (scale m c) (A m q 3 c)

/-- The finished block device `c` sends on hop `3 + t`. -/
def V (q : Fin 4) : ℕ → Fin 4 → FVec F S1024x512 .bf16
  | 0, c => O m q c
  | t + 1, c => V q t (up q c)

/-- What device `c` sends on ring `q`, hop `h`. -/
def sendVal (q : Fin 4) (h : ℕ) (c : Fin 4) : FVec F S1024x512 .bf16 := if h < 3 then A m q h c else V m q (h - 3) c

/-- A finished block widened for the result. -/
def wide (v : FVec F S1024x512 .bf16) : FVec F S1024x512 .f32 := k0_pay31 v

/-- The finished block of row block `k`, ring `q`. -/
def fin (k q : Fin 4) : FVec F S1024x512 .bf16 := O m q (orig q k)

theorem V_eq (q : Fin 4) (t : ℕ) (c : Fin 4) : V m q t c = fin m (ch q c (3 + t)) q := by
  induction t generalizing c with
  | zero => show O m q c = O m q (orig q (ch q c 3)); rw [orig_ch3]
  | succ t ih => show V m q t (up q c) = _; rw [ih, ch_up]; rfl

theorem blk_disj (t t' : Fin 4 × Fin 4) (h : t ≠ t') : Disjoint (blkF t).set (blkF t').set := blk_family.1 t t' h

/-- The result, the same on every device. -/
def result : S4096x2048.Idx → Elt F .f32 := Rect.glue blkF blk_family.2 (fun t => wide (fin m t.1 t.2))

theorem result_blk (k q : Fin 4) : (fun j => result m ((blkR k q).emb j)) = wide (fin m k q) := by
  funext j; exact Rect.glue_emb blkF blk_family.2 blk_family.1 (fun t : Fin 4 × Fin 4 => wide (fin m t.1 t.2)) (k, q) j

/-! ## The kernel's payloads in these names -/

theorem pay6_eq (a : FVec F S1024x512 .bf16) (Y : Vec F S1x1x1024x512 .bf16) :
    k0_pay6 a Y = accum a (shapeCast S1024x512 Y shapeCasts_S1x1x1024x512_S1024x512) := rfl

theorem wide_eq (v : FVec F S1024x512 .bf16) :
    shapeCast S1024x512 (k0_pay29 v) shapeCasts_S1x1024x512_S1024x512 = wide v :=
  shapeCast_shapeCast (wide v) shapeCasts_S1024x512_S1x1024x512 shapeCasts_S1x1024x512_S1024x512

theorem pay13_eq (a : FVec F S1024x512 .bf16) (Y : Vec F S1x1x1024x512 .bf16) :
    k0_pay13 (k0_pay12 a Y) = accum a (shapeCast S1024x512 Y shapeCasts_S1x1x1024x512_S1024x512) := rfl
theorem pay28_eq (s : F .bf16) (a : FVec F S1024x512 .bf16) : k0_pay28 (k0_pay27 s a) = relu s a := rfl
theorem pay35_eq (v : FVec F S1024x512 .bf16) : k0_pay35 (k0_pay34 v) = k0_pay29 v := rfl
theorem pay47_eq (v : FVec F S1024x512 .bf16) : k0_pay47 v = k0_pay29 v := rfl
theorem pay5_eq (Y : Vec F S1x1024x1024 .f32) (w : Vec F S1024x2048 .f32) :
    k0_pay5 Y w = k0_pay2 (shapeCast S1024x1024 Y shapeCasts_S1x1024x1024_S1024x1024) w := rfl

end Cert.KernelIdeal.Hand
-- ==== Proof.Ideal.Schedule.lean ====
module

public import proofs.«01_k».proof.Proof.Ideal.Contents

/-!
The protocol of the kernel's semaphores: the barrier, and one send and one receive semaphore for each ring and hop, each
used for one round.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging's rounds, the rings' rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rings' rounds. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

/-! ## Cells -/

abbrev barC (c : Dev nD) : GSem nD τ sig := ((c : Thread nD τ), .reg barS)
abbrev sndC (q : Fin 4) (h : ℕ) (c : Dev nD) : GSem nD τ sig := ((c : Thread nD τ), .dma (sndS q h))
abbrev rcvC (q : Fin 4) (h : ℕ) (c : Dev nD) : GSem nD τ sig := ((c : Thread nD τ), .dma (rcvS q h))

theorem sndS_val (q : Fin 4) {h : ℕ} (hh : h < 6) : (sndS q h).val = 7 + 6 * q.val + h := by
  have := q.isLt; exact Nat.mod_eq_of_lt (by omega)
theorem rcvS_val (q : Fin 4) {h : ℕ} (hh : h < 6) : (rcvS q h).val = 31 + 6 * q.val + h := by
  have := q.isLt; exact Nat.mod_eq_of_lt (by omega)

variable (m : (ℓ : Loc nD τ sig) → Buf (Elt F) ℓ)

/-! ## Payloads -/

/-- A hop of the reduce-scatter as an index of its landing slot. -/
def tri (h : ℕ) : Fin 3 := ⟨h % 3, Nat.mod_lt _ (by decide)⟩

/-- The three landing slots of ring `q` on device `c`. -/
def slots (c : Dev nD) (q : Fin 4) : sProp 𝕄 :=
  iprop(anyOwn c (rs q 0) ∗ anyOwn c (rs q 1) ∗ anyOwn c (rs q 2))

/-- What a neighbour's signal hands device `c`: the neighbour's landing slots of the rings it sends into there. -/
def barPay (c : Dev nD) (d : Bool) : sProp 𝕄 :=
  if d then iprop(slots (c + 1) 0 ∗ slots (c + 1) 2) else iprop(slots (c + 3) 1 ∗ slots (c + 3) 3)

/-- What a transfer on ring `q`, hop `h` from `u` carries beside its block: once the paired ring has a block back, the
    leave to overwrite it. -/
def handb (q : Fin 4) (h : ℕ) (u : Dev nD) : sProp 𝕄 :=
  if lag q ≤ h ∧ h ≤ lag q + 2 then anyOwn u (pb (ch (pt q) u (h - lag q)) (pt q)) else iprop(emp)

/-- Where a transfer on ring `q`, hop `h` lands on the receiver `c`. -/
def landing (q : Fin 4) (h : ℕ) (c : Dev nD) (X : FVec F S1024x512 .bf16) : sProp 𝕄 :=
  if h < 3 then ownsTc c (rs q (tri h)) fullShare X else ownsTc c (pb (ch q c (h + 1)) q) fullShare X

def rcvPay (q : Fin 4) (h : ℕ) (c : Dev nD) : sProp 𝕄 :=
  iprop(landing q h c (sendVal m q h (up q c)) ∗ handb q h (up q c))

/-- The share of its block a transfer takes along. -/
def lent (h : ℕ) : PosShare TreeShare := if h < 3 then fullShare else fullShare.left

def sndPay (q : Fin 4) (h : ℕ) (c : Dev nD) : sProp 𝕄 :=
  ownsTc c (pb (ch q c h) q) (lent h) (sendVal m q h c)

/-- The payload of a transfer's semaphore by its number. -/
def dmaPay (n : ℕ) (c : Dev nD) : sProp 𝕄 :=
  if 31 ≤ n then rcvPay m (four ((n - 31) / 6)) ((n - 31) % 6) c
  else if 7 ≤ n then sndPay m (four ((n - 7) / 6)) ((n - 7) % 6) c
  else iprop(emp)

instance slots_storable (c : Dev nD) (q : Fin 4) : BI.Storable (upEmb : UEmb _ 𝕄) (slots (F := F) c q) := by
  unfold slots; infer_instance
instance barPay_storable (c : Dev nD) (d : Bool) : BI.Storable (upEmb : UEmb _ 𝕄) (barPay (F := F) c d) := by
  unfold barPay; split <;> infer_instance
instance handb_storable (q : Fin 4) (h : ℕ) (c : Dev nD) : BI.Storable (upEmb : UEmb _ 𝕄) (handb (F := F) q h c) := by
  unfold handb; split <;> infer_instance
instance landing_storable (q : Fin 4) (h : ℕ) (c : Dev nD) (X) : BI.Storable (upEmb : UEmb _ 𝕄) (landing (F := F) q h c X) := by
  unfold landing; split <;> infer_instance
instance rcvPay_storable (q : Fin 4) (h : ℕ) (c : Dev nD) : BI.Storable (upEmb : UEmb _ 𝕄) (rcvPay (F := F) m q h c) := by
  unfold rcvPay; infer_instance
instance sndPay_storable (q : Fin 4) (h : ℕ) (c : Dev nD) : BI.Storable (upEmb : UEmb _ 𝕄) (sndPay (F := F) m q h c) := by
  unfold sndPay; infer_instance
instance dmaPay_storable (n : ℕ) (c : Dev nD) : BI.Storable (upEmb : UEmb _ 𝕄) (dmaPay (F := F) m n c) := by
  unfold dmaPay; (repeat' split) <;> infer_instance

/-! ## The schedule -/

def dutiesOf : SemLoc sig → Finset Bool
  | .reg s => if s = barS then Finset.univ else ∅
  | .dma s => if 7 ≤ s.val then {false} else ∅

def amountOf : SemLoc sig → ℕ
  | .reg _ => 1
  | .dma _ => N

def payOf (c : Dev nD) (d : Bool) : SemLoc sig → sProp 𝕄
  | .reg _ => barPay c d
  | .dma s => dmaPay m s.val c

instance payOf_storable (c : Dev nD) (d : Bool) (s : SemLoc sig) : BI.Storable (upEmb : UEmb _ 𝕄) (payOf (F := F) m c d s) := by
  cases s <;> (unfold payOf; infer_instance)

/-- One round for each cell: the barrier's two units, a transfer's one credit. -/
def Rd : Rounds.Schedule (GSem nD τ sig) Bool 𝕄 where
  duties g r := if r = 0 ∧ g.1.2 = .tc then dutiesOf g.2 else ∅
  unitless _ := False
  amount g _ _ := amountOf g.2
  payload g _ d := payOf m g.1.1 d g.2
  amount_pos g _ _ _ := by cases g.2 <;> first | exact Nat.one_pos | exact N_pos

instance Rd_payload_storable (g : GSem nD τ sig) (r : ℕ) (d : Bool) :
    BI.Storable (upEmb : UEmb _ 𝕄) ((Rd (F := F) m).payload g r d) := by
  show BI.Storable upEmb (payOf m g.1.1 d g.2); infer_instance

section Sched
variable (c : Dev nD) (q : Fin 4) {h : ℕ} (hh : h < 6)

theorem duties_bar : (Rd (F := F) m).duties (barC c) 0 = Finset.univ := by
  dsimp only [Rd]; rw [if_pos ⟨rfl, rfl⟩]; unfold dutiesOf; exact if_pos rfl
include hh in
theorem duties_snd : (Rd (F := F) m).duties (sndC q h c) 0 = {false} := by
  dsimp only [Rd]; rw [if_pos ⟨rfl, rfl⟩]; exact if_pos (by rw [sndS_val q hh]; omega)
include hh in
theorem duties_rcv : (Rd (F := F) m).duties (rcvC q h c) 0 = {false} := by
  dsimp only [Rd]; rw [if_pos ⟨rfl, rfl⟩]; exact if_pos (by rw [rcvS_val q hh]; omega)
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barC c) 0 d = 1 := rfl
theorem amount_snd (d : Bool) : (Rd (F := F) m).amount (sndC q h c) 0 d = N := rfl
theorem amount_rcv (d : Bool) : (Rd (F := F) m).amount (rcvC q h c) 0 d = N := rfl

theorem expect_bar : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
include hh in
theorem expect_snd : (Rd (F := F) m).expect (sndC q h c) 0 = N := by
  unfold Schedule.expect Schedule.amountOf; rw [duties_snd m c q hh, Finset.sum_singleton, amount_snd]
include hh in
theorem expect_rcv : (Rd (F := F) m).expect (rcvC q h c) 0 = N := by
  unfold Schedule.expect Schedule.amountOf; rw [duties_rcv m c q hh, Finset.sum_singleton, amount_rcv]

theorem payload_bar (d : Bool) : (Rd (F := F) m).payload (barC c) 0 d = barPay c d := rfl
include hh in
theorem payload_snd (d : Bool) : (Rd (F := F) m).payload (sndC q h c) 0 d = sndPay m q h c := by
  have hq := q.isLt
  show dmaPay m (sndS q h).val c = _
  unfold dmaPay
  rw [sndS_val q hh, if_neg (by omega), if_pos (by omega),
    show four ((7 + 6 * q.val + h - 7) / 6) = q from Fin.ext (by show (7 + 6 * q.val + h - 7) / 6 % 4 = q.val; omega),
    show (7 + 6 * q.val + h - 7) % 6 = h by omega]
include hh in
theorem payload_rcv (d : Bool) : (Rd (F := F) m).payload (rcvC q h c) 0 d = rcvPay m q h c := by
  have hq := q.isLt
  show dmaPay m (rcvS q h).val c = _
  unfold dmaPay
  rw [rcvS_val q hh, if_pos (by omega),
    show four ((31 + 6 * q.val + h - 31) / 6) = q from Fin.ext (by show (31 + 6 * q.val + h - 31) / 6 % 4 = q.val; omega),
    show (31 + 6 * q.val + h - 31) % 6 = h by omega]

/-- The barrier's whole round. -/
theorem rest_bar : bigSep ((Rd (F := F) m).duties (barC c) 0 \ ∅) (fun d => (Rd (F := F) m).payload (barC c) 0 d)
    = iprop(barPay c false ∗ barPay c true) := by
  rw [Finset.sdiff_empty, duties_bar, bigSep_univ_eq_bigSepL [false, true] (by decide) (by decide), bigSepL_cons_cons, bigSepL_singleton]
  rfl
include hh in
theorem rest_snd : bigSep ((Rd (F := F) m).duties (sndC q h c) 0 \ ∅) (fun d => (Rd (F := F) m).payload (sndC q h c) 0 d) = sndPay m q h c := by
  rw [Finset.sdiff_empty, duties_snd m c q hh, bigSep_singleton, payload_snd m c q hh]
include hh in
theorem rest_rcv : bigSep ((Rd (F := F) m).duties (rcvC q h c) 0 \ ∅) (fun d => (Rd (F := F) m).payload (rcvC q h c) 0 d) = rcvPay m q h c := by
  rw [Finset.sdiff_empty, duties_rcv m c q hh, bigSep_singleton, payload_rcv m c q hh]

end Sched

/-! ## What a core owes; the levels -/

/-- What `c` still owes ring `q`'s receive cells when it has sent `h` hops. -/
def owedR (q : Fin 4) (c : Dev nD) (h : ℕ) : CellTallies nD τ sig Unit :=
  ∑ j ∈ (Finset.univ : Finset (Fin 6)).filter (fun j => h ≤ j.val), tallyAt (rcvC q j.val (dn q c)) () N

/-- What `c` still owes when ring `q` has sent `hs q` hops. -/
def Owed (c : Dev nD) (hs : Fin 4 → ℕ) : CellTallies nD τ sig Unit := ∑ q, owedR q c (hs q)

theorem filter_peel (h : ℕ) (hh : h < 6) :
    (Finset.univ : Finset (Fin 6)).filter (fun j => h ≤ j.val) = insert ⟨h, hh⟩ ((Finset.univ : Finset (Fin 6)).filter (fun j => h + 1 ≤ j.val)) := by
  ext j
  simp only [Finset.mem_filter, Finset.mem_univ, true_and, Finset.mem_insert, Fin.ext_iff]
  omega

theorem not_mem_peel (h : ℕ) (hh : h < 6) :
    (⟨h, hh⟩ : Fin 6) ∉ (Finset.univ : Finset (Fin 6)).filter (fun j => h + 1 ≤ j.val) := by
  simp only [Finset.mem_filter, Finset.mem_univ, true_and]; omega

theorem owedR_peel (q : Fin 4) (c : Dev nD) (h : ℕ) (hh : h < 6) :
    owedR q c h = owedR q c (h + 1) + tallyAt (rcvC q h (dn q c)) () N := by
  unfold owedR
  rw [filter_peel h hh, Finset.sum_insert (not_mem_peel h hh), add_comm]

/-- A send pays one hop of one ring. -/
theorem Owed_send (c : Dev nD) (q : Fin 4) (hs hs' : Fin 4 → ℕ) (h6 : hs q < 6) (hq : hs' q = hs q + 1) (ho : ∀ p, p ≠ q → hs' p = hs p) :
    Owed c hs = Owed c hs' + tallyAt (rcvC q (hs q) (dn q c)) () N := by
  unfold Owed
  rw [← Finset.add_sum_erase _ _ (Finset.mem_univ q), ← Finset.add_sum_erase (a := q) _ (fun q => owedR q c (hs' q)) (Finset.mem_univ q),
    owedR_peel q c (hs q) h6, hq, add_right_comm]
  refine congrArg (fun z => _ + z + _) (Finset.sum_congr rfl fun p hp => ?_)
  show owedR p c (hs p) = owedR p c (hs' p)
  rw [ho p (Finset.ne_of_mem_erase hp)]

theorem Owed_six (c : Dev nD) : Owed c (fun _ => 6) = 0 := by
  unfold Owed owedR
  refine Finset.sum_eq_zero fun q _ => Finset.sum_eq_zero fun j hj => ?_
  exact absurd j.isLt (Nat.not_lt.mpr (Finset.mem_filter.mp hj).2)

/-- What a core owes at launch. -/
def O₁ (c : Dev nD) : CellTallies nD τ sig Unit := Owed c (fun _ => 0) + tallyAt (barC (c + 1)) () 1
def O₀ (c : Dev nD) : CellTallies nD τ sig Unit := O₁ c + tallyAt (barC (c + 3)) () 1

def L (g : GSem nD τ sig) : Finset Unit := if g.1.2 = .tc then {()} else ∅

def lvOf : SemLoc sig → ℕ
  | .reg _ => 1
  | .dma s => if 31 ≤ s.val then 2 + (s.val - 31) % 6 else 0
/-- Barrier cells at 1, the receive cell of hop `h` at `2 + h`, everything else at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_rcv (q : Fin 4) (h : ℕ) (hh : h < 6) (c : Dev nD) (u : Unit) : lv (rcvC q h c) u = 2 + h := by
  show (if 31 ≤ (rcvS q h).val then 2 + ((rcvS q h).val - 31) % 6 else 0) = _
  rw [rcvS_val q hh, if_pos (by omega)]; omega

/-- A cell something is owed to is a receive cell not yet sent to. -/
theorem Owed_pos {c : Dev nD} {hs : Fin 4 → ℕ} {g : GSem nD τ sig} {u : Unit} (h : 0 < Owed c hs g u) :
    ∃ (q : Fin 4) (j : Fin 6), hs q ≤ j.val ∧ g = rcvC q j.val (dn q c) := by
  unfold Owed owedR at h
  by_contra hn
  refine Nat.lt_irrefl 0 (lt_of_lt_of_eq h ?_)
  rw [Finset.sum_apply, Finsupp.finsetSum_apply]
  refine Finset.sum_eq_zero fun q _ => ?_
  rw [Finset.sum_apply, Finsupp.finsetSum_apply]
  refine Finset.sum_eq_zero fun j hj => ?_
  rw [tallyAt_apply, if_neg]
  rintro ⟨hg, -⟩
  exact hn ⟨q, j, (Finset.mem_filter.mp hj).2, hg⟩

theorem O₀_pos {c : Dev nD} {g : GSem nD τ sig} {u : Unit} (h : 0 < O₀ c g u) :
    (∃ (q : Fin 4) (j : Fin 6), g = rcvC q j.val (dn q c)) ∨ g = barC (c + 1) ∨ g = barC (c + 3) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨q, j, -, hg⟩ := Owed_pos (show 0 < Owed c (fun _ => 0) g u by omega)
  exact hn.1 ⟨q, j, hg⟩

theorem L_mem_tc (c : Dev nD) (sm : SemLoc sig) (u : Unit) : u ∈ L ((c : Thread nD τ), sm) := by
  rw [L_tc]; exact Finset.mem_singleton_self _

/-- A wait on a cell at level `b` is fine when the hops still owed are later. -/
theorem mayWait_of (c : Dev nD) (sm : SemLoc sig) (hs : Fin 4 → ℕ) (b : ℕ) (hb : lvOf sm ≤ b) (hlt : ∀ q, b < 2 + hs q) :
    (levAts L lv : sProp 𝕄) ⊢ MayWait (c : Thread nD τ) sm () (Owed c hs) :=
  MayOwe.of_cut (L := L) (lev := lv) b (fun p hp => by rw [Finset.mem_singleton.mp hp]; exact L_mem_tc _ _ _)
    (fun g u hg => by obtain ⟨q, j, -, rfl⟩ := Owed_pos hg; exact L_mem_tc _ _ _)
    (fun p hp => by rw [Finset.mem_singleton.mp hp]; exact hb)
    (fun g u hg => by
      obtain ⟨q, j, hj, rfl⟩ := Owed_pos hg
      rw [lv_rcv q j.val j.isLt]; have := hlt q; omega)

theorem mayWait_zero_level (c : Dev nD) (sm : SemLoc sig) (hs : Fin 4 → ℕ) (hb : lvOf sm = 0) :
    (levAts L lv : sProp 𝕄) ⊢ MayWait (c : Thread nD τ) sm () (Owed c hs) :=
  mayWait_of c sm hs 0 (le_of_eq hb) (fun q => by omega)

theorem mayWait_rcv (c : Dev nD) (q : Fin 4) (h : ℕ) (hh : h < 6) (hs : Fin 4 → ℕ) (hlt : ∀ q, h < hs q) :
    (levAts L lv : sProp 𝕄) ⊢ MayWait (c : Thread nD τ) (.dma (rcvS q h)) () (Owed c hs) :=
  mayWait_of c _ hs (2 + h) (le_of_eq (lv_rcv q h hh c ())) (fun q => by have := hlt q; omega)

theorem mayWait_bar (c : Dev nD) :
    (levAts L lv : sProp 𝕄) ⊢ MayWait (c : Thread nD τ) (.reg barS) () (Owed c (fun _ => 0)) :=
  mayWait_of c _ _ 1 le_rfl (fun q => by omega)

/-- The staging's waits, before and after the body. -/
theorem mayWait_stage (c : Dev nD) (s : DmaSem sig) (hb : lvOf (.dma s) = 0) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp]; exact L_mem_tc _ _ _)
      (fun g u hg => by rcases O₀_pos hg with ⟨q, j, rfl⟩ | rfl | rfl <;> exact L_mem_tc _ _ _)
      (fun p hp => by rw [Finset.mem_singleton.mp hp]; exact le_of_eq hb)
      (fun g u hg => by
        rcases O₀_pos hg with ⟨q, j, rfl⟩ | rfl | rfl
        · rw [lv_rcv q j.val j.isLt]; omega
        · exact Nat.one_pos
        · exact Nat.one_pos)
  · rw [MayWait_zero]; iintro -; iempintro

end Cert.KernelIdeal.Hand
-- ==== Proof.Ideal.Hops.lean ====
module

public import proofs.«01_k».proof.Proof.Ideal.Schedule

/-!
One hop of one ring: what a device keeps for a ring between hops, the send, and the waits for the send and for the
receive, each proved once for every ring and hop.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells by index, and what is known of them throughout -/

/-- A device's cells: its barrier, and for each ring and hop a send cell and a receive cell. -/
abbrev CellIx : Type := Option (Bool × Fin 4 × Fin 6)

def csem : CellIx → SemLoc sig
  | none => .reg barS
  | some (b, q, j) => if b then .dma (rcvS q j.val) else .dma (sndS q j.val)
abbrev kcell (ci : Dev nD × CellIx) : GSem nD τ sig := ((ci.1 : Thread nD τ), csem ci.2)

variable (m : (ℓ : Loc nD τ sig) → Buf (Elt F) ℓ)

/-- Every cell's invariant at its name, every cell's round 0 reached, and the levels. -/
def Rec (K : Dev nD × CellIx → ℕ) : sProp 𝕄 :=
  iprop((bigSep Finset.univ fun ci : Dev nD × CellIx => cellInv ER (Rd m) (K ci) (kcell ci))
    ∗ (bigSep Finset.univ fun ci : Dev nD × CellIx => reached ER (kcell ci) 0) ∗ levAts L lv)

instance Rec_persistent (K : Dev nD × CellIx → ℕ) : BI.Persistent (Rec m K) := by unfold Rec; infer_instance

variable (K : Dev nD × CellIx → ℕ)

theorem Rec_inv (ci : Dev nD × CellIx) : (Rec m K : sProp 𝕄) ⊢ cellInv ER (Rd m) (K ci) (kcell ci) := by
  unfold Rec; iintro ⟨H, -, -⟩
  iapply (show (bigSep Finset.univ fun ci : Dev nD × CellIx => (cellInv ER (Rd m) (K ci) (kcell ci) : sProp 𝕄)) ⊢ cellInv ER (Rd m) (K ci) (kcell ci)
    from bigSep_elim (Finset.mem_univ ci)) $$ H
theorem Rec_reached (ci : Dev nD × CellIx) : (Rec m K : sProp 𝕄) ⊢ reached ER (kcell ci) 0 := by
  unfold Rec; iintro ⟨-, H, -⟩
  iapply (show (bigSep Finset.univ fun ci : Dev nD × CellIx => (reached ER (kcell ci) 0 : sProp 𝕄)) ⊢ reached ER (kcell ci) 0
    from bigSep_elim (Finset.mem_univ ci)) $$ H
theorem Rec_lev : (Rec m K : sProp 𝕄) ⊢ levAts L lv := by
  unfold Rec; iintro ⟨-, -, H⟩; iexact H

/-! ## What a device keeps for a ring -/

/-- Over the hops from `h` on, and over the hops before `h`. -/
def from' (h : ℕ) (Φ : ℕ → sProp 𝕄) : sProp 𝕄 :=
  bigSep ((Finset.univ : Finset (Fin 6)).filter (fun j => h ≤ j.val)) fun j => Φ j.val
def upto (h : ℕ) (Φ : ℕ → sProp 𝕄) : sProp 𝕄 :=
  bigSep ((Finset.univ : Finset (Fin 6)).filter (fun j => j.val < h)) fun j => Φ j.val

theorem from_peel (h : ℕ) (hh : h < 6) (Φ : ℕ → sProp 𝕄) : from' h Φ = iprop(Φ h ∗ from' (h + 1) Φ) := by
  unfold from'; rw [filter_peel h hh, bigSep_insert (not_mem_peel h hh)]; rfl

theorem upto_peel (h : ℕ) (hh : h < 6) (Φ : ℕ → sProp 𝕄) : upto (h + 1) Φ = iprop(Φ h ∗ upto h Φ) := by
  unfold upto
  rw [show (Finset.univ : Finset (Fin 6)).filter (fun j => j.val < h + 1)
      = insert ⟨h, hh⟩ ((Finset.univ : Finset (Fin 6)).filter (fun j => j.val < h)) from by
    ext j
    simp only [Finset.mem_filter, Finset.mem_univ, true_and, Finset.mem_insert, Fin.ext_iff]
    omega, bigSep_insert (by simp only [Finset.mem_filter, Finset.mem_univ, true_and]; omega)]
  rfl

/-- The two duties of a hop's sender; a cell's position; a cell's credit; a cell closed at zero. -/
def tokAt (q c : Fin 4) (h : ℕ) : sProp 𝕄 := iprop(dutyTok ER (sndC q h c) 0 false ∗ dutyTok ER (rcvC q h (dn q c)) 0 false)
def posS (q c : Fin 4) (h : ℕ) : sProp 𝕄 := atPos ER (sndC q h c) 0 ∅ 0
def posR (q c : Fin 4) (h : ℕ) : sProp 𝕄 := iprop(atPos ER (rcvC q h c) 0 ∅ 0 ∗ cred (tallyAt (rcvC q h c) () N))
def zS (q c : Fin 4) (h : ℕ) : sProp 𝕄 := semVal (sndC q h c) 0
def zR (q c : Fin 4) (h : ℕ) : sProp 𝕄 := semVal (rcvC q h c) 0

/-- Ring `q` on device `c` with `t` hops sent, `s` sends waited for, `r` receives waited for. -/
def St (q c : Fin 4) (t s r : ℕ) : sProp 𝕄 :=
  iprop(from' t (tokAt q c) ∗ from' s (posS q c) ∗ from' r (posR q c) ∗ upto s (zS q c) ∗ upto r (zR q c))

/-- Between hops; with a send under way; with its send waited for and the receive not. -/
def Idle (q c : Fin 4) (h : ℕ) : sProp 𝕄 := St q c h h h
def Busy (q c : Fin 4) (h : ℕ) : sProp 𝕄 := iprop(St q c (h + 1) h h ∗ cred (tallyAt (sndC q h c) () N))
def Mid (q c : Fin 4) (h : ℕ) : sProp 𝕄 := St q c (h + 1) (h + 1) h

/-- What a core owes, whatever it has waited for. -/
def Ow (c : Dev nD) (hs : Fin 4 → ℕ) : sProp 𝕄 := iprop(∃ W, owes (c : Thread nD τ) (Owed c hs) W)

section Steps
variable (c : Dev nD) (q : Fin 4) (h : ℕ) (hh : h < 6)
variable {α : Type} {Q : α → sProp (MT nD τ sig Unit (Elt F) ℕ UU ℕ)}

include hh in
theorem Rec_snd : (Rec m K : sProp 𝕄) ⊢ iprop(cellInv ER (Rd m) (K (c, some (false, q, ⟨h, hh⟩))) (sndC q h c) ∗ reached ER (sndC q h c) 0) := by
  iintro #H
  isplitl
  · iapply (Rec_inv m K (c, some (false, q, ⟨h, hh⟩))) $$ H
  · iapply (Rec_reached m K (c, some (false, q, ⟨h, hh⟩))) $$ H
include hh in
theorem Rec_rcv : (Rec m K : sProp 𝕄) ⊢ iprop(cellInv ER (Rd m) (K (c, some (true, q, ⟨h, hh⟩))) (rcvC q h c) ∗ reached ER (rcvC q h c) 0) := by
  iintro #H
  isplitl
  · iapply (Rec_inv m K (c, some (true, q, ⟨h, hh⟩))) $$ H
  · iapply (Rec_reached m K (c, some (true, q, ⟨h, hh⟩))) $$ H

include hh in
/-- The send of hop `h`. -/
theorem step_send {src dst : Memref sig .tc .vmem S1024x512 .bf16} {n : Dev nD} (hn : n = dn q c)
    (hs : Fin 4 → ℕ) (hs' : Fin 4 → ℕ) (hsq : hs q = h) (hq : hs' q = h + 1) (ho : ∀ p, p ≠ q → hs' p = hs p)
    (hsrcv : src = pb (ch q c h) q)
    (hland : ∀ X, (ownsTc (dn q c) dst fullShare X : sProp 𝕄) ⊢ landing q h (dn q c) X)
    (hN : dst.view.dmaCredit = N)
    {hsc : dst.view.ref.isScScratch = false} {hsrc : src.view.WordExact} {hdst : dst.view.WordExact}
    {hsem : DmaTarget.Typed .vmem (.dma (rcvS q h)) (.remote (Dev.tc n : Thread nD τ) dst (.dma (sndS q h)) hsc)}
    {k : PUnit → Prog (TpuEff nD τ sig (Elt F) Λ₀ .tc) α} :
    (Rec m K : sProp 𝕄) ⊢ iprop(Idle q c h -∗ Ow c hs -∗ ownsTc c src (lent h) (sendVal m q h c) -∗ anyOwn (dn q c) dst -∗ handb q h c
      -∗ ((Busy q c h ∗ Ow c hs') -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma (sndS q h)) hsc) (.dma (rcvS q h)) hsrc hdst hsem) k) Q) := by
  subst hn
  have hO : Owed c hs = Owed c hs' + tallyAt (rcvC q h (dn q c)) () N := by
    subst hsq; exact Owed_send c q hs hs' hh hq ho
  unfold Idle St Busy St Ow
  iintro #HR ⟨Ht, HpS, HpR, HzS, HzR⟩ ⟨%W, HO⟩ Hsrc Hdst Hh Hk
  ihave Ht := (Entails.of_eq (from_peel h hh (tokAt q c))) $$ Ht
  unfold tokAt
  icases Ht with ⟨⟨Ht1, Ht2⟩, Ht⟩
  ihave Hd := (anyOwn_elim (dn q c) dst) $$ Hdst
  icases Hd with ⟨%Z, Hd⟩
  ihave Hd' := (owns_open (dn q c) dst _ Z) $$ Hd
  icases Hd' with ⟨%fd, %hfd, Hd⟩
  ihave Hs' := (owns_open c src _ (sendVal m q h c)) $$ Hsrc
  icases Hs' with ⟨%fs, %hfs, Hs⟩
  ihave H1 := (Rec_snd m K c q h hh) $$ HR
  icases H1 with ⟨#HI1, #Hr1⟩
  ihave H2 := (Rec_rcv m K (dn q c) q h hh) $$ HR
  icases H2 with ⟨#HI2, #Hr2⟩
  have hd₁ : false ∈ (Rd (F := F) m).duties (sndC q h c) 0 := by rw [duties_snd m c q hh]; exact Finset.mem_singleton_self _
  have hd₂ : false ∈ (Rd (F := F) m).duties (rcvC q h (dn q c)) 0 := by
    rw [duties_rcv m (dn q c) q hh]; exact Finset.mem_singleton_self _
  have hN' : dst.view.amount (.dma (rcvS q h)) = N := hN
  have hp₁ : (src.view.loc (c : Thread nD τ) ↦[src.view.set]{lent h} fs) ⊢ (Rd (F := F) m).payload (sndC q h c) 0 false := by
    rw [payload_snd m c q hh]; unfold sndPay
    subst hsrcv
    exact owns_close c _ (lent h) _ fs hfs
  have hp₂ : iprop((dst.view.loc (dn q c : Thread nD τ) ↦[dst.view.set]{fullShare}
      (dst.view.write (Elt F) fd (src.view.read (Elt F) fs) Finset.univ)) ∗ handb q h c) ⊢ (Rd (F := F) m).payload (rcvC q h (dn q c)) 0 false := by
    rw [payload_rcv m (dn q c) q hh]; unfold rcvPay
    rw [up_dn]
    exact BIClass.sep_mono ((owns_close (dn q c) dst fullShare (sendVal m q h c) _ (by rw [View.read_write_univ]; exact hfs)).trans (hland _)) .rfl
  iapply (Rounds.wp_send_pointsTo_with 𝒱₀ ER (Rd m) (c : Thread nD τ) none (c' := Dev.tc (dn q c)) (src := src) (dst := dst) (hsc := hsc) (sS := .dma (sndS q h)) (sem := .dma (rcvS q h)) (hsrc := hsrc) (hdst := hdst) (hsem := hsem) (k := k) (Q := Q) (q := lent h) (F := handb q h c) (fd := fd) (fs := fs)
    (κ₁ := K (c, some (false, q, ⟨h, hh⟩))) (κ₂ := K (dn q c, some (true, q, ⟨h, hh⟩))) (r₁ := 0) (r₂ := 0) (d₁ := false) (d₂ := false)
    hd₁ hd₂ () () N hN' (amount_snd m c q false) (amount_rcv m (dn q c) q false) (Owed c hs')
    hO (W := W)
    hp₁ hp₂)
    $$ [Hs Hd Hh HO Ht1 Ht2]
  · isplitr; · iexact HI1
    isplitr; · iexact HI2
    isplitl [Hs]; · iexact Hs
    isplitl [Hd Hh]
    · isplitl [Hd] <;> iassumption
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitr [Hc]
    · isplitl [Ht]; · iexact Ht
      isplitl [HpS]; · iexact HpS
      isplitl [HpR]; · iexact HpR
      isplitl [HzS] <;> iassumption
    iexact Hc
  iexists W; iexact HO

include hh in
/-- The wait for the send of hop `h`: the block back. -/
theorem step_wait_send {sp sp' : Space} {s s' : Shape} {e e' : EltTy} {srcw : Memref sig .tc sp s e} {dstw : Memref sig .tc sp' s' e'}
    (hN : dstw.view.dmaCredit = N) (hs : Fin 4 → ℕ)
    {hsrc : srcw.view.WordExact} {hdst : dstw.view.WordExact}
    {k : PUnit → Prog (TpuEff nD τ sig (Elt F) Λ₀ .tc) α} :
    (Rec m K : sProp 𝕄) ⊢ iprop(Busy q c h -∗ Ow c hs
      -∗ ((Mid q c h ∗ Ow c hs ∗ ownsTc c (pb (ch q c h) q) (lent h) (sendVal m q h c))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (sndS q h) srcw dstw hsrc hdst) k) Q) := by
  unfold Busy Mid St Ow
  iintro #HR ⟨⟨Ht, HpS, HpR, HzS, HzR⟩, Hc⟩ ⟨%W, HO⟩ Hk
  ihave HpS := (Entails.of_eq (from_peel h hh (posS q c))) $$ HpS
  unfold posS
  icases HpS with ⟨Hat, HpS⟩
  ihave H1 := (Rec_snd m K c q h hh) $$ HR
  icases H1 with ⟨#HI1, -⟩
  have hk : 0 + dstw.view.dmaCredit = (Rd (F := F) m).expect (sndC q h c) 0 := by
    rw [Nat.zero_add, expect_snd m c q hh]; exact hN
  iapply (Rounds.wp_wait_rest_token 𝒱₀ ER (Rd m) (c : Thread nD τ) none (κ := K (c, some (false, q, ⟨h, hh⟩)))
      (wpE_waitDma2_eq 𝒱₀ (c : Thread nD τ) none Set.univ) (Set.mem_univ _) () (O := Owed c hs) (W := W) (R := 0) (m := 0) (T := ∅)
      hk) $$ [Hc HO Hat]
  · isplitr; · iexact HI1
    isplitl [Hc]; · rw [hN]; iexact Hc
    isplitl [HO]; · iexact HO
    isplitr
    · iapply (mayWait_zero_level c (.dma (sndS q h)) hs (by
        show (if 31 ≤ (sndS q h).val then _ else _) = 0
        rw [sndS_val q hh, if_neg (by have := q.isLt; omega)]))
      iapply (Rec_lev m K) $$ HR
    iexact Hat
  iintro ⟨HO, Hat, -, Hpay⟩
  ihave Hx := (Entails.of_eq (rest_snd m c q hh)) $$ Hpay
  unfold sndPay
  imod (Rounds.cell_close ER (Rd m) (Set.mem_univ (K (c, some (false, q, ⟨h, hh⟩)))) (fun h => h) (R := 0 + 1) (duties_later m (sndC q h c))) $$ [Hat] with Hz
  · isplitr; · iexact HI1
    iexact Hat
  iapply Hk
  isplitr [HO Hx]
  · isplitl [Ht]; · iexact Ht
    isplitl [HpS]; · iexact HpS
    isplitl [HpR]; · iexact HpR
    isplitl [HzS Hz]
    · iapply (Entails.of_eq (upto_peel h hh (zS q c)).symm)
      isplitl [Hz]
      · unfold zS; iexact Hz
      iexact HzS
    iexact HzR
  isplitl [HO]
  · iexists _; iexact HO
  iexact Hx

include hh in
/-- The wait for the receive of hop `h`: the neighbour's block and what it carried. -/
theorem step_wait_recv {sp sp' : Space} {s s' : Shape} {e e' : EltTy} {srcw : Memref sig .tc sp s e} {dstw : Memref sig .tc sp' s' e'}
    (hN : dstw.view.dmaCredit = N) (hs : Fin 4 → ℕ) (hlt : ∀ q, h < hs q)
    {hsrc : srcw.view.WordExact} {hdst : dstw.view.WordExact}
    {k : PUnit → Prog (TpuEff nD τ sig (Elt F) Λ₀ .tc) α} :
    (Rec m K : sProp 𝕄) ⊢ iprop(Mid q c h -∗ Ow c hs
      -∗ ((Idle q c (h + 1) ∗ Ow c hs ∗ landing q h c (sendVal m q h (up q c)) ∗ handb q h (up q c))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (rcvS q h) srcw dstw hsrc hdst) k) Q) := by
  unfold Mid Idle St Ow
  iintro #HR ⟨Ht, HpS, HpR, HzS, HzR⟩ ⟨%W, HO⟩ Hk
  ihave HpR := (Entails.of_eq (from_peel h hh (posR q c))) $$ HpR
  unfold posR
  icases HpR with ⟨⟨Hat, Hc⟩, HpR⟩
  ihave H1 := (Rec_rcv m K c q h hh) $$ HR
  icases H1 with ⟨#HI1, -⟩
  have hk : 0 + dstw.view.dmaCredit = (Rd (F := F) m).expect (rcvC q h c) 0 := by
    rw [Nat.zero_add, expect_rcv m c q hh]; exact hN
  iapply (Rounds.wp_wait_rest_token 𝒱₀ ER (Rd m) (c : Thread nD τ) none (κ := K (c, some (true, q, ⟨h, hh⟩)))
      (wpE_waitDma2_eq 𝒱₀ (c : Thread nD τ) none Set.univ) (Set.mem_univ _) () (O := Owed c hs) (W := W) (R := 0) (m := 0) (T := ∅)
      hk) $$ [Hc HO Hat]
  · isplitr; · iexact HI1
    isplitl [Hc]; · rw [hN]; iexact Hc
    isplitl [HO]; · iexact HO
    isplitr
    · iapply (mayWait_rcv c q h hh hs hlt)
      iapply (Rec_lev m K) $$ HR
    iexact Hat
  iintro ⟨HO, Hat, -, Hpay⟩
  ihave Hx := (Entails.of_eq (rest_rcv m c q hh)) $$ Hpay
  unfold rcvPay
  icases Hx with ⟨Hx, Hh⟩
  imod (Rounds.cell_close ER (Rd m) (Set.mem_univ (K (c, some (true, q, ⟨h, hh⟩)))) (fun h => h) (R := 0 + 1) (duties_later m (rcvC q h c))) $$ [Hat] with Hz
  · isplitr; · iexact HI1
    iexact Hat
  iapply Hk
  isplitr [HO Hx Hh]
  · isplitl [Ht]; · iexact Ht
    isplitl [HpS]; · iexact HpS
    isplitl [HpR]; · iexact HpR
    isplitl [HzS]; · iexact HzS
    iapply (Entails.of_eq (upto_peel h hh (zR q c)).symm)
    isplitl [Hz]
    · unfold zR; iexact Hz
    iexact HzR
  isplitl [HO]
  · iexists _; iexact HO
  isplitl [Hx] <;> iassumption

end Steps

end Cert.KernelIdeal.Hand
-- ==== Proof.Ideal.Moves.lean ====
module

public import proofs.«01_k».proof.Proof.Ideal.Hops

/-!
The kernel's moves, each proved once for every ring, hop, block and buffer: what travels with a send and is taken back
from a receive; a reduce-scatter send and turn; an all-gather send and the waits for it; the scaling; a block of the
result stored; a row block loaded and multiplied.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What travels with a block -/

section Handing
variable (c : Fin 4)

theorem lag_pos (q : Fin 4) : 1 ≤ lag q ∧ lag q ≤ 2 := by revert q; decide

/-- A block sent on the partner ring's hop `t` goes with hop `lag q + t`. -/
theorem handb_give (q : Fin 4) (t h : ℕ) (ht : t ≤ 2) (hh : h = lag q + t) (p : Fin 4) (hp : p = pt q) :
    (anyOwn c (pb (ch p c t) p) : sProp 𝕄) ⊢ handb q h c := by
  subst hh hp
  unfold handb
  rw [if_pos ⟨by omega, by omega⟩, Nat.add_sub_cancel_left]

/-- It is the block the partner ring's hop `3 + t` lands in. -/
theorem handb_take (q : Fin 4) (t h : ℕ) (ht : t ≤ 2) (hh : h = lag q + t) (p : Fin 4) (hp : p = pt q) :
    (handb q h (up q c) : sProp 𝕄) ⊢ anyOwn (dn p c) (pb (ch p c (3 + t)) p) := by
  subst hh hp
  unfold handb
  rw [if_pos ⟨by omega, by omega⟩, Nat.add_sub_cancel_left, dn_pt,
    show ch (pt q) (up q c) t = ch (pt q) c (3 + t) from by
      rw [← dn_pt, ← ch_period (pt q) (dn (pt q) c) t, show t + 4 = (3 + t) + 1 from by omega, ch_dn]]

/-- Nothing goes with the other hops. -/
theorem handb_none (q : Fin 4) (h : ℕ) (hh : ¬ (lag q ≤ h ∧ h ≤ lag q + 2)) {R : sProp 𝕄} : R ⊢ handb q h c := by
  unfold handb; rw [if_neg hh]; iintro -; iempintro

theorem handb_drop (q : Fin 4) (h : ℕ) (u : Fin 4) : (handb q h u : sProp 𝕄) ⊢ iprop(emp) := by
  iintro -; iempintro

end Handing

variable (m : (ℓ : Loc nD τ sig) → Buf (Elt F) ℓ) (K : Dev nD × CellIx → ℕ)
variable (c : Dev nD)
variable {α : Type} {Q : α → sProp (MT nD τ sig Unit (Elt F) ℕ UU ℕ)}

abbrev pbV (so : Fin 2 → ℕ) (hi : ∀ a, so a + S1024x512.size a ≤ S4096x2048.size a) : Memref sig .tc .vmem S1024x512 .bf16 :=
  (Memref.whole cc0_scratch1).slice (Rect.unit (s := S4096x2048) so S1024x512.size hi) (fun _ => rfl)

/-! ## The reduce-scatter -/

/-- A block of the partial sums sent down the ring. -/
theorem send_rs (q : Fin 4) (h : ℕ) (hh : h < 3) {n : Dev nD} (hn : n = dn q c) (hs hs' : Fin 4 → ℕ)
    (hsq : hs q = h) (hq : hs' q = h + 1) (ho : ∀ p, p ≠ q → hs' p = hs p)
    {so : Fin 2 → ℕ} {hi : ∀ a, so a + S1024x512.size a ≤ S4096x2048.size a} (hso : so = off (ch q c h) q)
    {G : sProp 𝕄} (hg : G ⊢ handb q h c)
    {hsc : (rs q (tri h)).view.ref.isScScratch = false} {hsrc : (pbV so hi).view.WordExact} {hdst : (rs q (tri h)).view.WordExact}
    {hsem : DmaTarget.Typed .vmem (.dma (rcvS q h)) (.remote (Dev.tc n : Thread nD τ) (rs q (tri h)) (.dma (sndS q h)) hsc)}
    {k : PUnit → Prog (TpuEff nD τ sig (Elt F) Λ₀ .tc) α} :
    (Rec m K : sProp 𝕄) ⊢ iprop(Idle q c h -∗ Ow c hs -∗ ownsTc c (pb (ch q c h) q) fullShare (A m q h c)
      -∗ anyOwn (dn q c) (rs q (tri h)) -∗ G
      -∗ ((Busy q c h ∗ Ow c hs') -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (pbV so hi) (.remote (Dev.tc n : Thread nD τ) (rs q (tri h)) (.dma (sndS q h)) hsc) (.dma (rcvS q h)) hsrc hdst hsem) k) Q) := by
  subst hso
  have hl : lent h = fullShare := if_pos hh
  have hv : sendVal m q h c = A m q h c := if_pos hh
  have hland : ∀ X, (ownsTc (dn q c) (rs q (tri h)) fullShare X : sProp 𝕄) ⊢ landing q h (dn q c) X := fun X => by
    unfold landing; rw [if_pos hh]
  iintro #HR Hi Ho Hp Hd Hg
  ihave Hg := hg $$ Hg
  ihave Hp := (Entails.of_eq (show (ownsTc c (pb (ch q c h) q) fullShare (A m q h c) : sProp 𝕄)
    = ownsTc c (pb (ch q c h) q) (lent h) (sendVal m q h c) from by rw [hl, hv])) $$ Hp
  iapply (step_send m K c q h (by omega) (src := pb (ch q c h) q) (dst := rs q (tri h)) hn hs hs' hsq hq ho rfl hland rfl) $$ HR Hi Ho Hp Hd Hg

/-- A slot's partial sum added into a block. -/
theorem step_acc (k q : Fin 4) (j : Fin 3) {a R : FVec F S1024x512 .bf16}
    {so : Fin 2 → ℕ} {hi : ∀ a, so a + S1024x512.size a ≤ S4096x2048.size a} (hso : so = off k q)
    (pay : FVec F S1024x512 .bf16 → Vec F S1x1x1024x512 .bf16 → FVec F S1024x512 .bf16)
    (hpay : ∀ a Y, pay a Y = accum a (shapeCast S1024x512 Y shapeCasts_S1x1x1024x512_S1024x512))
    {hl hl''} {hl'} {hx} {hm} {kk : PUnit → Prog (TpuEff nD τ sig (Elt F) Λ₀ .tc) α} :
    (ownsTc c (pb k q) fullShare a : sProp 𝕄) ⊢ iprop(ownsTc c (rs q j) fullShare R
      -∗ ((ownsTc c (pb k q) fullShare (accum a R) ∗ anyOwn c (rs q j))
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.load (Memref.whole cc0_scratch1) (Rect.unit (s := S4096x2048) so S1024x512.size hi).toLoadRect hl) fun (v : Vec F S1024x512 .bf16) =>
            .op (.load (Memref.whole cc0_scratch2) (rsR q j).toLoadRect hl') fun (y : Vec F S1x1x1024x512 .bf16) =>
            .op (.load (Memref.whole cc0_scratch1) (Rect.unit (s := S4096x2048) so S1024x512.size hi).toLoadRect hl'') fun _ =>
            .op (.store (Memref.whole cc0_scratch1) (Rect.unit (s := S4096x2048) so S1024x512.size hi) (pay v y) Finset.univ hx hm) kk) Q) := by
  subst hso
  iintro Ha Hr Hk
  iapply (step_load (m := Memref.whole cc0_scratch1) (r := blkR k q) (hr := fun _ => rfl) 𝒱₀ c none) $$ Ha
  iintro Ha
  iapply (step_load_sq (m := Memref.whole cc0_scratch2) (r := rsR q j) (hr := fun _ => rfl) (hq := squeezes_S1x1x1024x512_S1024x512)
    𝒱₀ c none shapeCasts_S1x1x1024x512_S1024x512) $$ Hr
  iintro %Y %hY Hr
  iapply (step_load (m := Memref.whole cc0_scratch1) (r := blkR k q) (hr := fun _ => rfl) 𝒱₀ c none) $$ Ha
  iintro Ha
  iapply (step_store (m := Memref.whole cc0_scratch1) (r := blkR k q) (hr := fun _ => rfl) 𝒱₀ c none) $$ Ha
  iintro Ha
  iapply Hk
  rw [hpay, hY]
  isplitl [Ha]; · iexact Ha
  iapply (anyOwn_intro c _ _) $$ Hr

/-- A turn of the reduce-scatter: the last send and receive waited for, what came added to the next block. -/
theorem turn_rs (q : Fin 4) (h : ℕ) (hh : h < 3) (hs : Fin 4 → ℕ) (hlt : ∀ q, h < hs q)
    {so : Fin 2 → ℕ} {hi : ∀ a, so a + S1024x512.size a ≤ S4096x2048.size a} (hso : so = off (ch q c (h + 1)) q)
    (pay : FVec F S1024x512 .bf16 → Vec F S1x1x1024x512 .bf16 → FVec F S1024x512 .bf16)
    (hpay : ∀ a Y, pay a Y = accum a (shapeCast S1024x512 Y shapeCasts_S1x1x1024x512_S1024x512))
    {G : sProp 𝕄} (hg : handb q h (up q c) ⊢ G)
    {sp sp' : Space} {s s' : Shape} {e e' : EltTy} {w₁ : Memref sig .tc sp s e} {w₃ : Memref sig .tc sp' s' e'}
    {o₂ : Fin 2 → ℕ} {hi₂ : ∀ a, o₂ a + S1024x512.size a ≤ S4096x2048.size a}
    {hw₁ : w₁.view.WordExact} {hw₂ : (pbV o₂ hi₂).view.WordExact} {hw₃ : w₃.view.WordExact} {hw₄ : (rs q (tri h)).view.WordExact}
    {hl hl''} {hl'} {hx} {hm} {kk : PUnit → Prog (TpuEff nD τ sig (Elt F) Λ₀ .tc) α} :
    (Rec m K : sProp 𝕄) ⊢ iprop(Busy q c h -∗ Ow c hs -∗ ownsTc c (pb (ch q c (h + 1)) q) fullShare (P m q c (ch q c (h + 1)))
      -∗ ((Idle q c (h + 1) ∗ Ow c hs ∗ ownsTc c (pb (ch q c (h + 1)) q) fullShare (A m q (h + 1) c)
            ∗ anyOwn c (pb (ch q c h) q) ∗ anyOwn c (rs q (tri h)) ∗ G)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 (sndS q h) w₁ (pbV o₂ hi₂) hw₁ hw₂) fun _ => .op (.waitDma2 (rcvS q h) w₃ (rs q (tri h)) hw₃ hw₄) fun _ =>
            .op (.load (Memref.whole cc0_scratch1) (Rect.unit (s := S4096x2048) so S1024x512.size hi).toLoadRect hl) fun (v : Vec F S1024x512 .bf16) =>
            .op (.load (Memref.whole cc0_scratch2) (rsR q (tri h)).toLoadRect hl') fun (y : Vec F S1x1x1024x512 .bf16) =>
            .op (.load (Memref.whole cc0_scratch1) (Rect.unit (s := S4096x2048) so S1024x512.size hi).toLoadRect hl'') fun _ =>
            .op (.store (Memref.whole cc0_scratch1) (Rect.unit (s := S4096x2048) so S1024x512.size hi) (pay v y) Finset.univ hx hm) kk) Q) := by
  have hl : lent h = fullShare := if_pos hh
  have hv : ∀ c, sendVal m q h c = A m q h c := fun c => if_pos hh
  have hland : ∀ X, (landing q h c X : sProp 𝕄) ⊢ ownsTc c (rs q (tri h)) fullShare X := fun X => by
    unfold landing; rw [if_pos hh]
  iintro #HR Hi Ho Hp Hk
  iapply (step_wait_send m K c q h (by omega) (dstw := pbV o₂ hi₂) rfl hs) $$ HR Hi Ho
  iintro ⟨Hi, Ho, Hb⟩
  iapply (step_wait_recv m K c q h (by omega) (dstw := rs q (tri h)) rfl hs hlt) $$ HR Hi Ho
  iintro ⟨Hi, Ho, Hr, Hg⟩
  ihave Hr := (hland _) $$ Hr
  ihave Hg := hg $$ Hg
  ihave Hb := (Entails.of_eq (show (ownsTc c (pb (ch q c h) q) (lent h) (sendVal m q h c) : sProp 𝕄)
    = ownsTc c (pb (ch q c h) q) fullShare (A m q h c) from by rw [hl, hv])) $$ Hb
  iapply (step_acc c (ch q c (h + 1)) q (tri h) hso pay hpay) $$ Hp Hr
  iintro ⟨Hp, Hr⟩
  iapply Hk
  isplitl [Hi]; · iexact Hi
  isplitl [Ho]; · iexact Ho
  isplitl [Hp]; · rw [hv]; iexact Hp
  isplitl [Hb]; · iapply (anyOwn_intro c _ _) $$ Hb
  isplitl [Hr] <;> iassumption

/-! ## The all-gather -/

/-- A finished block sent down the ring; half of it stays to be read. -/
theorem send_ag (q : Fin 4) (t h : ℕ) (ht : t < 3) (hth : h = 3 + t) {n : Dev nD} (hn : n = dn q c) (hs hs' : Fin 4 → ℕ)
    (hsq : hs q = h) (hq : hs' q = h + 1) (ho : ∀ p, p ≠ q → hs' p = hs p)
    {so : Fin 2 → ℕ} {hi hi' : ∀ a, so a + S1024x512.size a ≤ S4096x2048.size a} (hso : so = off (ch q c h) q)
    {G : sProp 𝕄} (hg : G ⊢ handb q h c)
    {hsc : (pbV so hi').view.ref.isScScratch = false} {hsrc : (pbV so hi).view.WordExact} {hdst : (pbV so hi').view.WordExact}
    {hsem : DmaTarget.Typed .vmem (.dma (rcvS q h)) (.remote (Dev.tc n : Thread nD τ) (pbV so hi') (.dma (sndS q h)) hsc)}
    {k : PUnit → Prog (TpuEff nD τ sig (Elt F) Λ₀ .tc) α} :
    (Rec m K : sProp 𝕄) ⊢ iprop(Idle q c h -∗ Ow c hs -∗ ownsTc c (pb (ch q c h) q) fullShare (V m q t c)
      -∗ anyOwn (dn q c) (pb (ch q c h) q) -∗ G
      -∗ ((Busy q c h ∗ Ow c hs' ∗ ownsTc c (pb (ch q c h) q) fullShare.right (V m q t c))
          -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (pbV so hi) (.remote (Dev.tc n : Thread nD τ) (pbV so hi') (.dma (sndS q h)) hsc) (.dma (rcvS q h)) hsrc hdst hsem) k) Q) := by
  subst hso
  have hl : lent h = fullShare.left := if_neg (by omega)
  have hv : sendVal m q h c = V m q t c := by
    rw [show t = h - 3 from by omega]; exact if_neg (by omega)
  have hland : ∀ X, (ownsTc (dn q c) (pb (ch q c h) q) fullShare X : sProp 𝕄) ⊢ landing q h (dn q c) X := fun X => by
    unfold landing; rw [if_neg (by omega), ch_dn]
  iintro #HR Hi Ho Hp Hd Hg Hk
  ihave Hg := hg $$ Hg
  ihave Hp := (owns_split c _ _) $$ Hp
  icases Hp with ⟨Hp, Hp'⟩
  ihave Hp := (Entails.of_eq (show (ownsTc c (pb (ch q c h) q) fullShare.left (V m q t c) : sProp 𝕄)
    = ownsTc c (pb (ch q c h) q) (lent h) (sendVal m q h c) from by rw [hl, hv])) $$ Hp
  iapply (step_send m K c q h (by omega) (src := pb (ch q c h) q) (dst := pb (ch q c h) q) hn hs hs' hsq hq ho rfl hland rfl) $$ HR Hi Ho Hp Hd Hg
  iintro ⟨Hi, Ho⟩
  iapply Hk
  isplitl [Hi]; · iexact Hi
  isplitl [Ho] <;> iassumption

/-- A turn of the all-gather: the last send and receive waited for. -/
theorem turn_ag (q : Fin 4) (t h : ℕ) (ht : t < 3) (hth : h = 3 + t) (hs : Fin 4 → ℕ) (hlt : ∀ q, h < hs q)
    {G : sProp 𝕄} (hg : handb q h (up q c) ⊢ G)
    {sp sp' : Space} {s s' : Shape} {e e' : EltTy} {w₁ : Memref sig .tc sp s e} {w₃ : Memref sig .tc sp' s' e'}
    {o₂ o₄ : Fin 2 → ℕ} {hi₂ : ∀ a, o₂ a + S1024x512.size a ≤ S4096x2048.size a} {hi₄ : ∀ a, o₄ a + S1024x512.size a ≤ S4096x2048.size a}
    {hw₁ : w₁.view.WordExact} {hw₂ : (pbV o₂ hi₂).view.WordExact} {hw₃ : w₃.view.WordExact} {hw₄ : (pbV o₄ hi₄).view.WordExact}
    {kk : PUnit → Prog (TpuEff nD τ sig (Elt F) Λ₀ .tc) α} :
    (Rec m K : sProp 𝕄) ⊢ iprop(Busy q c h -∗ Ow c hs -∗ ownsTc c (pb (ch q c h) q) fullShare.right (V m q t c)
      -∗ ((Idle q c (h + 1) ∗ Ow c hs ∗ anyOwn c (pb (ch q c h) q)
            ∗ ownsTc c (pb (ch q c (h + 1)) q) fullShare (V m q (t + 1) c) ∗ G)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 (sndS q h) w₁ (pbV o₂ hi₂) hw₁ hw₂) fun _ => .op (.waitDma2 (rcvS q h) w₃ (pbV o₄ hi₄) hw₃ hw₄) kk) Q) := by
  have hl : lent h = fullShare.left := if_neg (by omega)
  have hv : ∀ c, sendVal m q h c = V m q t c := fun c => by
    rw [show t = h - 3 from by omega]; exact if_neg (by omega)
  have hland : ∀ X, (landing q h c X : sProp 𝕄) ⊢ ownsTc c (pb (ch q c (h + 1)) q) fullShare X := fun X => by
    unfold landing; rw [if_neg (by omega)]
  iintro #HR Hi Ho Hp Hk
  iapply (step_wait_send m K c q h (by omega) (dstw := pbV o₂ hi₂) rfl hs) $$ HR Hi Ho
  iintro ⟨Hi, Ho, Hb⟩
  iapply (step_wait_recv m K c q h (by omega) (dstw := pbV o₄ hi₄) rfl hs hlt) $$ HR Hi Ho
  iintro ⟨Hi, Ho, Hr, Hg⟩
  ihave Hr := (hland _) $$ Hr
  ihave Hg := hg $$ Hg
  ihave Hb := (Entails.of_eq (show (ownsTc c (pb (ch q c h) q) (lent h) (sendVal m q h c) : sProp 𝕄)
    = ownsTc c (pb (ch q c h) q) fullShare.left (V m q t c) from by rw [hl, hv])) $$ Hb
  ihave Hb := (owns_halves c (pb (ch q c h) q) (V m q t c)) $$ [Hb Hp]
  · isplitl [Hb] <;> iassumption
  iapply Hk
  isplitl [Hi]; · iexact Hi
  isplitl [Ho]; · iexact Ho
  isplitl [Hb]; · iapply (anyOwn_intro c _ _) $$ Hb
  isplitl [Hr]
  · rw [hv]; iexact Hr
  iexact Hg

/-! ## The scaling -/

/-- The scaling of a finished sum. -/
theorem step_relu (k q : Fin 4) (sc : F .bf16) {a : FVec F S1024x512 .bf16}
    {so : Fin 2 → ℕ} {hi : ∀ a, so a + S1024x512.size a ≤ S4096x2048.size a} (hso : so = off k q)
    (pay : FVec F S1024x512 .bf16 → FVec F S1024x512 .bf16) (hpay : ∀ a, pay a = relu sc a)
    {hl hl'} {hx} {hm} {kk : PUnit → Prog (TpuEff nD τ sig (Elt F) Λ₀ .tc) α} :
    (ownsTc c (pb k q) fullShare a : sProp 𝕄) ⊢ iprop(
      (ownsTc c (pb k q) fullShare (relu sc a)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.load (Memref.whole cc0_scratch1) (Rect.unit (s := S4096x2048) so S1024x512.size hi).toLoadRect hl) fun (v : Vec F S1024x512 .bf16) =>
            .op (.load (Memref.whole cc0_scratch1) (Rect.unit (s := S4096x2048) so S1024x512.size hi).toLoadRect hl') fun _ =>
            .op (.store (Memref.whole cc0_scratch1) (Rect.unit (s := S4096x2048) so S1024x512.size hi) (pay v) Finset.univ hx hm) kk) Q) := by
  subst hso
  iintro Ha Hk
  iapply (step_load (m := Memref.whole cc0_scratch1) (r := blkR k q) (hr := fun _ => rfl) 𝒱₀ c none) $$ Ha
  iintro Ha
  iapply (step_load (m := Memref.whole cc0_scratch1) (r := blkR k q) (hr := fun _ => rfl) 𝒱₀ c none) $$ Ha
  iintro Ha
  iapply (step_store (m := Memref.whole cc0_scratch1) (r := blkR k q) (hr := fun _ => rfl) 𝒱₀ c none) $$ Ha
  iintro Ha
  iapply Hk
  rw [hpay]
  iexact Ha

/-! ## The result -/

abbrev outV (oo : Fin 2 → ℕ) (hi : ∀ a, oo a + S1024x512.size a ≤ S4096x2048.size a) : Memref sig .tc .hbm S1024x512 .f32 :=
  (Memref.whole main_v1).slice (Rect.unit (s := S4096x2048) oo S1024x512.size hi) (fun _ => rfl)

/-- What a copy of a staged block adds to a semaphore. -/
abbrev No : ℕ := (outB 0 0).view.dmaCredit
/-- What a copy of a row block of the left operand adds. -/
abbrev Nx : ℕ := (xsB 0).view.dmaCredit

theorem No_pos : 0 < No := View.dmaCredit_pos _ (by decide)
theorem Nx_pos : 0 < Nx := View.dmaCredit_pos _ (by decide)

/-- A staged block on its way to the result. -/
def OutFl (b : Fin 2) (k q : Fin 4) (v : FVec F S1024x512 .bf16) (c : Dev nD) : sProp 𝕄 :=
  Transfers.Flight EC (c : Thread nD τ) (.dma (stS b)) () No iprop(ownsTc c (outB k q) fullShare (wide v) ∗ anyOwn c (stB b))

/-- A staging slot at rest, its semaphore at zero. -/
def Slot (b : Fin 2) (c : Dev nD) : sProp 𝕄 := iprop(anyOwn c (stB b) ∗ semVal ((c : Thread nD τ), SemLoc.dma (stS b)) 0)

/-- A block widened into a staging slot and its copy to the result begun. -/
theorem step_out (k q : Fin 4) (b : Fin 2) {sh : PosShare TreeShare} {v : FVec F S1024x512 .bf16}
    {so : Fin 2 → ℕ} {hi : ∀ a, so a + S1024x512.size a ≤ S4096x2048.size a} (hso : so = off k q)
    {oo : Fin 2 → ℕ} {hi' : ∀ a, oo a + S1024x512.size a ≤ S4096x2048.size a} (hoo : oo = off k q)
    (pay : FVec F S1024x512 .bf16 → FVec F S1x1024x512 .f32) (hpay : ∀ v, pay v = k0_pay29 v)
    {hl} {hl'} {hx} {hm} {hsrc : (stB b).view.WordExact}
    {hdst : (outV oo hi').view.WordExact}
    {hsem : DmaTarget.Typed (nD := nD) (p := .tc) .vmem (.dma (stS b))
      (.here (outV oo hi'))}
    {kk : PUnit → Prog (TpuEff nD τ sig (Elt F) Λ₀ .tc) α} :
    (ownsTc c (pb k q) sh v : sProp 𝕄) ⊢ iprop(Slot b c -∗ anyOwn c (outB k q)
      -∗ ((ownsTc c (pb k q) sh v ∗ OutFl b k q v c)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.load (Memref.whole cc0_scratch1) (Rect.unit (s := S4096x2048) so S1024x512.size hi).toLoadRect hl) fun (v : Vec F S1024x512 .bf16) =>
            .op (.load (Memref.whole cc0_scratch3) (stR b).toLoadRect hl') fun _ =>
            .op (.store (Memref.whole cc0_scratch3) (stR b) (pay v) Finset.univ hx hm) fun _ =>
            .op (.enqueueDma (stB b) (.here (outV oo hi'))
              (.dma (stS b)) hsrc hdst hsem) kk) Q) := by
  subst hso hoo
  unfold Slot
  iintro Ha ⟨Hst, Hv⟩ Hout Hk
  iapply (step_load (m := Memref.whole cc0_scratch1) (r := blkR k q) (hr := fun _ => rfl) 𝒱₀ c none) $$ Ha
  iintro Ha
  ihave Hst := (anyOwn_elim c _) $$ Hst
  icases Hst with ⟨%Z, Hst⟩
  iapply (step_load_sq (m := Memref.whole cc0_scratch3) (r := stR b) (hr := fun _ => rfl) (hq := squeezes_S1x1024x512_S1024x512)
    𝒱₀ c none shapeCasts_S1x1024x512_S1024x512) $$ Hst
  iintro %Y %hY Hst
  iapply (step_store_sq (m := Memref.whole cc0_scratch3) (r := stR b) (hr := fun _ => rfl) (hq := squeezes_S1x1024x512_S1024x512)
    𝒱₀ c none shapeCasts_S1x1024x512_S1024x512) $$ Hst
  iintro Hst
  rw [hpay, wide_eq]
  ihave Hout := (anyOwn_elim c _) $$ Hout
  icases Hout with ⟨%Z', Hout⟩
  iapply (step_copy 𝒱₀ c none EC (src := stB b) (dst := outB k q) () No rfl No_pos) $$ [Hst Hout Hv]
  · isplitl [Hst]; · iexact Hst
    isplitl [Hout] <;> iassumption
  iintro Hf
  iapply Hk
  isplitl [Ha]; · iexact Ha
  unfold OutFl
  iapply (Transfers.Flight_mono EC (c : Thread nD τ) (BIClass.sep_mono .rfl (anyOwn_intro c (stB b) _))) $$ Hf

/-- The wait for a copy to the result. -/
theorem wait_out (b : Fin 2) (k q : Fin 4) {v : FVec F S1024x512 .bf16} (hs : Fin 4 → ℕ)
    {sp : Space} {s : Shape} {e : EltTy} {w₁ : Memref sig .tc sp s e}
    {o₂ : Fin 2 → ℕ} {hi₂ : ∀ a, o₂ a + S1024x512.size a ≤ S4096x2048.size a} {hw₁ : w₁.view.WordExact} {hw₂ : (outV o₂ hi₂).view.WordExact}
    {kk : PUnit → Prog (TpuEff nD τ sig (Elt F) Λ₀ .tc) α} :
    (Rec m K : sProp 𝕄) ⊢ iprop(OutFl b k q v c -∗ Ow c hs
      -∗ ((Slot b c ∗ ownsTc c (outB k q) fullShare (wide v) ∗ Ow c hs)
          -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 (stS b) w₁ (outV o₂ hi₂) hw₁ hw₂) kk) Q) := by
  have hb : lvOf (.dma (stS b)) = 0 := by revert b; decide
  unfold OutFl Ow
  iintro #HR Hf ⟨%W, Ho⟩ Hk
  iapply (Transfers.wp_waitLocalO EC 𝒱₀ (c : Thread nD τ) none (dstw := outV o₂ hi₂) () rfl) $$ [Hf Ho]
  · isplitl [Hf]; · iexact Hf
    isplitl [Ho]; · iexact Ho
    iapply (mayWait_zero_level c (.dma (stS b)) hs hb)
    iapply (Rec_lev m K) $$ HR
  iintro ⟨⟨Hout, Hst⟩, Hv, Ho⟩
  iapply Hk
  isplitl [Hst Hv]
  · unfold Slot; isplitl [Hst] <;> iassumption
  isplitl [Hout]; · iexact Hout
  iexists _; iexact Ho

/-- A slot's last copy waited for and its next begun. -/
theorem turn_out (k q : Fin 4) (b : Fin 2) (k' q' : Fin 4) {sh : PosShare TreeShare} {v v' : FVec F S1024x512 .bf16} (hs : Fin 4 → ℕ)
    {so : Fin 2 → ℕ} {hi : ∀ a, so a + S1024x512.size a ≤ S4096x2048.size a} (hso : so = off k q)
    {oo : Fin 2 → ℕ} {hi' : ∀ a, oo a + S1024x512.size a ≤ S4096x2048.size a} (hoo : oo = off k q)
    (pay : FVec F S1024x512 .bf16 → FVec F S1x1024x512 .f32) (hpay : ∀ v, pay v = k0_pay29 v)
    {sp : Space} {s : Shape} {e : EltTy} {w₁ : Memref sig .tc sp s e}
    {o₂ : Fin 2 → ℕ} {hi₂ : ∀ a, o₂ a + S1024x512.size a ≤ S4096x2048.size a} {hw₁ : w₁.view.WordExact} {hw₂ : (outV o₂ hi₂).view.WordExact}
    {hl} {hl'} {hx} {hm} {hsrc : (stB b).view.WordExact}
    {hdst : (outV oo hi').view.WordExact}
    {hsem : DmaTarget.Typed (nD := nD) (p := .tc) .vmem (.dma (stS b))
      (.here (outV oo hi'))}
    {kk : PUnit → Prog (TpuEff nD τ sig (Elt F) Λ₀ .tc) α} :
    (Rec m K : sProp 𝕄) ⊢ iprop(OutFl b k' q' v' c -∗ Ow c hs -∗ ownsTc c (pb k q) sh v -∗ anyOwn c (outB k q)
      -∗ ((ownsTc c (pb k q) sh v ∗ OutFl b k q v c ∗ ownsTc c (outB k' q') fullShare (wide v') ∗ Ow c hs)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 (stS b) w₁ (outV o₂ hi₂) hw₁ hw₂) fun _ =>
            .op (.load (Memref.whole cc0_scratch1) (Rect.unit (s := S4096x2048) so S1024x512.size hi).toLoadRect hl) fun (v : Vec F S1024x512 .bf16) =>
            .op (.load (Memref.whole cc0_scratch3) (stR b).toLoadRect hl') fun _ =>
            .op (.store (Memref.whole cc0_scratch3) (stR b) (pay v) Finset.univ hx hm) fun _ =>
            .op (.enqueueDma (stB b) (.here (outV oo hi'))
              (.dma (stS b)) hsrc hdst hsem) kk) Q) := by
  iintro #HR Hf Ho Ha Hout Hk
  iapply (wait_out m K c b k' q' hs) $$ HR Hf Ho
  iintro ⟨Hsl, Hdone, Ho⟩
  iapply (step_out c k q b hso hoo pay hpay) $$ Ha Hsl Hout
  iintro ⟨Ha, Hf⟩
  iapply Hk
  isplitl [Ha]; · iexact Ha
  isplitl [Hf]; · iexact Hf
  isplitl [Hdone] <;> iassumption

/-! ## The products -/

/-- A row block of the left operand on its way to its slot. -/
def XFl (b : Fin 2) (k : Fin 4) (X : FVec F S1024x1024 .f32) (c : Dev nD) : sProp 𝕄 :=
  Transfers.Flight EC (c : Thread nD τ) (.dma (ldS b)) () Nx iprop(ownsTc c (xsB b) fullShare X ∗ ownsTc c (xB k) fullShare X)

/-- A slot of the left operand's buffer at rest, its semaphore at zero. -/
def XSlot (b : Fin 2) (c : Dev nD) : sProp 𝕄 := iprop(anyOwn c (xsB b) ∗ semVal ((c : Thread nD τ), SemLoc.dma (ldS b)) 0)

theorem XSlot_back (b : Fin 2) (X : FVec F S1024x1024 .f32) :
    (ownsTc c (xsB b) fullShare X : sProp 𝕄) ⊢ iprop(semVal ((c : Thread nD τ), SemLoc.dma (ldS b)) 0 -∗ XSlot b c) := by
  unfold XSlot; iintro H Hv
  isplitl [H]; · iapply (anyOwn_intro c _ _) $$ H
  iexact Hv

/-- The copy of a row block begun. -/
theorem load_x (b : Fin 2) (k : Fin 4) {X : FVec F S1024x1024 .f32}
    {so : Fin 2 → ℕ} {hi : ∀ a, so a + S1024x1024.size a ≤ S4096x1024.size a} (hso : so = rowOff k)
    {hsrc : ((Memref.whole main_arg0).slice (Rect.unit (s := S4096x1024) so S1024x1024.size hi) (fun _ => rfl)).view.WordExact}
    {hdst : (xsB b).view.WordExact} {hsem : DmaTarget.Typed (nD := nD) (p := .tc) .hbm (.dma (ldS b)) (.here (xsB b))}
    {kk : PUnit → Prog (TpuEff nD τ sig (Elt F) Λ₀ .tc) α} :
    (XSlot b c : sProp 𝕄) ⊢ iprop(ownsTc c (xB k) fullShare X
      -∗ (XFl b k X c -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma ((Memref.whole main_arg0).slice (Rect.unit (s := S4096x1024) so S1024x1024.size hi) (fun _ => rfl))
            (.here (xsB b)) (.dma (ldS b)) hsrc hdst hsem) kk) Q) := by
  subst hso
  unfold XSlot XFl
  iintro ⟨Hst, Hv⟩ Hx Hk
  ihave Hst := (anyOwn_elim c _) $$ Hst
  icases Hst with ⟨%Z, Hst⟩
  iapply (step_copy 𝒱₀ c none EC (src := xB k) (dst := xsB b) () Nx rfl Nx_pos) $$ [Hst Hx Hv]
  · isplitl [Hx]; · iexact Hx
    isplitl [Hst] <;> iassumption
  iexact Hk

/-- The wait for it. -/
theorem wait_x (b : Fin 2) (k : Fin 4) {X : FVec F S1024x1024 .f32} (hs : Fin 4 → ℕ)
    {sp : Space} {s : Shape} {e : EltTy} {w₁ : Memref sig .tc sp s e} {hw₁ : w₁.view.WordExact} {hw₂ : (xsB b).view.WordExact}
    {kk : PUnit → Prog (TpuEff nD τ sig (Elt F) Λ₀ .tc) α} :
    (Rec m K : sProp 𝕄) ⊢ iprop(XFl b k X c -∗ Ow c hs
      -∗ ((ownsTc c (xsB b) fullShare X ∗ semVal ((c : Thread nD τ), SemLoc.dma (ldS b)) 0 ∗ ownsTc c (xB k) fullShare X ∗ Ow c hs)
          -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 (ldS b) w₁ (xsB b) hw₁ hw₂) kk) Q) := by
  have hb : lvOf (.dma (ldS b)) = 0 := (by decide : ∀ b : Fin 2, lvOf (.dma (ldS b)) = 0) b
  unfold XFl Ow
  iintro #HR Hf ⟨%W, Ho⟩ Hk
  iapply (Transfers.wp_waitLocalO EC 𝒱₀ (c : Thread nD τ) none (dstw := xsB b) () rfl) $$ [Hf Ho]
  · isplitl [Hf]; · iexact Hf
    isplitl [Ho]; · iexact Ho
    iapply (mayWait_zero_level c (.dma (ldS b)) hs hb)
    iapply (Rec_lev m K) $$ HR
  iintro ⟨⟨Hst, Hx⟩, Hv, Ho⟩
  iapply Hk
  isplitl [Hst]; · iexact Hst
  isplitl [Hv]; · iexact Hv
  isplitl [Hx]; · iexact Hx
  iexists _; iexact Ho

theorem zero2 : (![0, 0] : Fin 2 → Nat) = fun _ => 0 := funext fun a => by fin_cases a <;> rfl

theorem read_w (f : (cc0_stg0_0 : Ref sig .tc).ty.Contents (Elt F)) :
    wB.view.readAt (Elt F) (Rect.unit (s := S1024x2048) ![0, 0] S1024x2048.size inb_S1024x2048_S1024x2048_0_0).toLoadRect f = f :=
  Memref.readAt_unit_zero (Elt F) cc0_stg0_0 zero2 _ f

/-- A row block's product with the right operand. -/
theorem step_mul (b : Fin 2) (k : Fin 4) {X : FVec F S1024x1024 .f32} {w : (cc0_stg0_0 : Ref sig .tc).ty.Contents (Elt F)}
    {so : Fin 2 → ℕ} {hi : ∀ a, so a + S1024x2048.size a ≤ S4096x2048.size a} (hso : so = rowOff k)
    (pay : Vec F S1x1024x1024 .f32 → Vec F S1024x2048 .f32 → FVec F S1024x2048 .bf16)
    (hpay : ∀ Y w, pay Y w = k0_pay2 (shapeCast S1024x1024 Y shapeCasts_S1x1024x1024_S1024x1024) w)
    {hl} {hl'} {hl''} {hx} {hm} {kk : PUnit → Prog (TpuEff nD τ sig (Elt F) Λ₀ .tc) α} :
    (ownsTc c (xsB b) fullShare X : sProp 𝕄) ⊢ iprop(((c : Thread nD τ).loc cc0_stg0_0 ↦{fullShare} w) -∗ anyOwn c (rowB k)
      -∗ ((ownsTc c (xsB b) fullShare X ∗ ((c : Thread nD τ).loc cc0_stg0_0 ↦{fullShare} w) ∗ ownsTc c (rowB k) fullShare (k0_pay2 X w))
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.load (Memref.whole cc0_scratch0) (xsR b).toLoadRect hl) fun (y : Vec F S1x1024x1024 .f32) =>
            .op (.load wB (Rect.unit (s := S1024x2048) ![0, 0] S1024x2048.size inb_S1024x2048_S1024x2048_0_0).toLoadRect hl') fun (w : Vec F S1024x2048 .f32) =>
            .op (.load (Memref.whole cc0_scratch1) (Rect.unit (s := S4096x2048) so S1024x2048.size hi).toLoadRect hl'') fun _ =>
            .op (.store (Memref.whole cc0_scratch1) (Rect.unit (s := S4096x2048) so S1024x2048.size hi) (pay y w) Finset.univ hx hm) kk) Q) := by
  subst hso
  iintro Hx Hw Hr Hk
  iapply (step_load_sq (m := Memref.whole cc0_scratch0) (r := xsR b) (hr := fun _ => rfl) (hq := squeezes_S1x1024x1024_S1024x1024)
    𝒱₀ c none shapeCasts_S1x1024x1024_S1024x1024) $$ Hx
  iintro %Y %hY Hx
  iapply (wp_load 𝒱₀ (c : Thread nD τ) none Set.univ (m := wB) (S := Finset.univ) (Finset.subset_univ _)) $$ Hw; iintro Hw; rw [read_w]
  ihave Hr := (anyOwn_elim c _) $$ Hr
  icases Hr with ⟨%Z, Hr⟩
  iapply (step_load (m := Memref.whole cc0_scratch1) (r := rowR k) (hr := fun _ => rfl) 𝒱₀ c none) $$ Hr
  iintro Hr
  iapply (step_store (m := Memref.whole cc0_scratch1) (r := rowR k) (hr := fun _ => rfl) 𝒱₀ c none) $$ Hr
  iintro Hr
  iapply Hk
  rw [hpay, hY]
  isplitl [Hx]; · iexact Hx
  isplitl [Hw] <;> iassumption

/-- A row block's product is the four rings' blocks of it. -/
theorem row_rings (k : Fin 4) (h₀ h₁ : ℕ) (e₀ : ∀ q, even q = true → ch q c h₀ = k) (e₁ : ∀ q, even q = false → ch q c h₁ = k) :
    (ownsTc c (rowB k) fullShare (k0_pay2 (xrow m c k) (wst m c)) : sProp 𝕄)
      ⊢ iprop(ownsTc c (pb (ch 0 c h₀) 0) fullShare (P m 0 c (ch 0 c h₀)) ∗ ownsTc c (pb (ch 1 c h₁) 1) fullShare (P m 1 c (ch 1 c h₁))
        ∗ ownsTc c (pb (ch 2 c h₀) 2) fullShare (P m 2 c (ch 2 c h₀)) ∗ ownsTc c (pb (ch 3 c h₁) 3) fullShare (P m 3 c (ch 3 c h₁))) := by
  rw [e₀ 0 rfl, e₁ 1 rfl, e₀ 2 rfl, e₁ 3 rfl]
  refine (row_blocks c k fullShare (prod m c k)).trans ?_
  rw [bigSep_univ_eq_bigSepL [0, 1, 2, 3] (by decide) (by decide)]
  simp only [bigSepL_cons_cons, bigSepL_singleton]
  exact .rfl

end Cert.KernelIdeal.Hand
-- ==== Proof.Ideal.Start.lean ====
module

public import proofs.«01_k».proof.Proof.Ideal.Moves

/-!
What one device's body starts from and ends with, and its opening: the two signals to the neighbours, which hand them
the landing slots of the rings they send into, and the wait for theirs.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ)
variable (c : Dev nD)

/-- One thing for each ring. -/
def each (Φ : Fin 4 → sProp 𝕄) : sProp 𝕄 := iprop(Φ 0 ∗ Φ 1 ∗ Φ 2 ∗ Φ 3)

/-- One thing for each row block, in the order a device multiplies them. -/
def rows (Φ : Fin 4 → sProp 𝕄) : sProp 𝕄 := iprop(Φ c ∗ Φ (c + 3) ∗ Φ (c + four 1) ∗ Φ (c + four 2))

/-- The blocks of ring `q` in the order device `c` finishes them. -/
def owns4 (q : Fin 4) (Φ : Fin 4 → sProp 𝕄) : sProp 𝕄 :=
  iprop(Φ (ch q c 3) ∗ Φ (ch q c 4) ∗ Φ (ch q c 5) ∗ Φ (ch q c 6))

/-- The barrier: the two duties towards the neighbours, the device's own position and credit. -/
def barStart : sProp 𝕄 :=
  iprop(dutyTok ER (barC (c + 3)) 0 true ∗ dutyTok ER (barC (c + 1)) 0 false ∗ atPos ER (barC c) 0 ∅ 0 ∗ cred (tallyAt (barC c) () 2))

/-- The staged operands. -/
def staged : sProp 𝕄 :=
  iprop(((c : Thread nD τ).loc cc0_stg0_0 ↦{fullShare} wst m c) ∗ ((c : Thread nD τ).loc cc0_stg1_0 ↦{fullShare} sxst m c)
    ∗ ((c : Thread nD τ).loc cc0_stg2_0 ↦{fullShare} swst m c))

/-- The left operand, by row blocks. -/
def operand : sProp 𝕄 := rows c fun k => ownsTc c (xB k) fullShare (xrow m c k)

/-- The buffers of the local copies at rest. -/
def rest : sProp 𝕄 := iprop(XSlot 0 c ∗ XSlot 1 c ∗ Slot 0 c ∗ Slot 1 c)

def before : sProp 𝕄 :=
  iprop(barStart c ∗ each (fun q => Idle q c 0) ∗ (∃ W, owes (c : Thread nD τ) (O₀ c) W) ∗ each (fun q => slots c q)
    ∗ staged m c ∗ operand m c ∗ rest c ∗ rows c (fun k => anyOwn c (rowB k))
    ∗ each (fun q => owns4 c q fun k => anyOwn c (outB k q)))

def after : sProp 𝕄 :=
  iprop(semVal (barC c) 0 ∗ each (fun q => Idle q c 6) ∗ Ow c (fun _ => 6) ∗ each (fun q => slots c q)
    ∗ staged m c ∗ operand m c ∗ rest c ∗ each (fun q => owns4 c q fun k => anyOwn c (pb k q))
    ∗ each (fun q => owns4 c q fun k => ownsTc c (outB k q) fullShare (wide (fin m k q))))

variable {α : Type} {Q : α → sProp (MT nD τ sig Unit (Elt F) ℕ UU ℕ)}

/-- The opening. -/
theorem step_sync {n₁ n₂ : Dev nD} (hn₁ : n₁ = c + 3) (hn₂ : n₂ = c + 1)
    {kk : PUnit → Prog (TpuEff nD τ sig (Elt F) Λ₀ .tc) α} :
    (Rec m K : sProp 𝕄) ⊢ iprop(barStart c -∗ (∃ W, owes (c : Thread nD τ) (O₀ c) W) -∗ each (fun q => slots c q)
      -∗ ((semVal (barC c) 0 ∗ Ow c ![0, 0, 0, 0] ∗ each (fun q => slots (dn q c) q))
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.semSignal (n₁ : Thread nD τ) barS (1#32).toInt) fun _ => .op (.semSignal (n₂ : Thread nD τ) barS (1#32).toInt) fun _ =>
            .op (.semWait barS (2#32).toInt) kk) Q) := by
  subst hn₁ hn₂
  unfold barStart each slots Ow
  iintro #HR ⟨Ht1, Ht2, Hat, Hc⟩ ⟨%W, HO⟩ ⟨Hs0, Hs1, Hs2, Hs3⟩ Hk
  ihave #HI := (Rec_inv m K (c, none)) $$ HR
  ihave #HI1 := (Rec_inv m K (c + 3, none)) $$ HR
  ihave #Hr1 := (Rec_reached m K (c + 3, none)) $$ HR
  ihave #HI2 := (Rec_inv m K (c + 1, none)) $$ HR
  ihave #Hr2 := (Rec_reached m K (c + 1, none)) $$ HR
  have h1 : barPay (F := F) (c + 3) true = iprop(slots c 0 ∗ slots c 2) := by
    unfold barPay; rw [if_pos rfl, (by decide : ∀ c : Fin 4, c + 3 + 1 = c) c]
  have h2 : barPay (F := F) (c + 1) false = iprop(slots c 1 ∗ slots c 3) := by
    unfold barPay; rw [if_neg (by decide), (by decide : ∀ c : Fin 4, c + 1 + 3 = c) c]
  have hd1 : true ∈ (Rd (F := F) m).duties (barC (c + 3)) 0 := by rw [duties_bar]; exact Finset.mem_univ _
  have hd2 : false ∈ (Rd (F := F) m).duties (barC (c + 1)) 0 := by rw [duties_bar]; exact Finset.mem_univ _
  iapply (Rounds.wp_signal 𝒱₀ ER (Rd m) (c : Thread nD τ) none (dst := ((c + 3 : Dev nD) : Thread nD τ)) (κ := K (c + 3, none))
      (d := true) hd1 ((amount_bar m (c + 3) true).trans (by decide)) () (O₁ c) rfl)
    $$ [HO Ht1 Hs0 Hs2]
  · isplitr; · iexact HI1
    isplitl [HO]; · iexact HO
    isplitl [Ht1]; · iexact Ht1
    isplitl [Hs0 Hs2]
    · rw [payload_bar, h1]; unfold slots
      isplitl [Hs0] <;> iassumption
    iexact Hr1
  iintro HO
  iapply (Rounds.wp_signal 𝒱₀ ER (Rd m) (c : Thread nD τ) none (dst := ((c + 1 : Dev nD) : Thread nD τ)) (κ := K (c + 1, none))
      (d := false) hd2 ((amount_bar m (c + 1) false).trans (by decide)) () (Owed c (fun _ => 0)) rfl)
    $$ [HO Ht2 Hs1 Hs3]
  · isplitr; · iexact HI2
    isplitl [HO]; · iexact HO
    isplitl [Ht2]; · iexact Ht2
    isplitl [Hs1 Hs3]
    · rw [payload_bar, h2]; unfold slots
      isplitl [Hs1] <;> iassumption
    iexact Hr2
  iintro HO
  iapply (Rounds.wp_wait_rest_token 𝒱₀ ER (Rd m) (c : Thread nD τ) none (κ := K (c, none))
      (wpE_semWait_eq 𝒱₀ (c : Thread nD τ) none Set.univ) (Set.mem_univ _) () (O := Owed c (fun _ => 0)) (W := W) (R := 0) (m := 0) (T := ∅)
      (by rw [expect_bar]; decide)) $$ [Hc HO Hat]
  · isplitr; · iexact HI
    isplitl [Hc]; · iexact Hc
    isplitl [HO]; · iexact HO
    isplitr
    · iapply (mayWait_bar c)
      iapply (Rec_lev m K) $$ HR
    iexact Hat
  iintro ⟨HO, Hat, -, Hpay⟩
  ihave Hp := (Entails.of_eq (rest_bar m c)) $$ Hpay
  ihave Hp := (Entails.of_eq (show iprop(barPay (F := F) c false ∗ barPay c true)
      = iprop((slots (c + 3) 1 ∗ slots (c + 3) 3) ∗ (slots (c + 1) 0 ∗ slots (c + 1) 2)) from by
    unfold barPay; rw [if_pos rfl, if_neg (by decide)])) $$ Hp
  unfold slots
  icases Hp with ⟨⟨Hs1, Hs3⟩, ⟨Hs0, Hs2⟩⟩
  imod (Rounds.cell_close ER (Rd m) (Set.mem_univ (K (c, none))) (fun h => h) (R := 0 + 1) (duties_later m (barC c))) $$ [Hat] with Hz
  · isplitr; · iexact HI
    iexact Hat
  iapply Hk
  isplitl [Hz]; · iexact Hz
  isplitl [HO]
  · iexists _
    ihave HO := (Entails.of_eq (show (owes (c : Thread nD τ) (Owed c (fun _ => 0)) (insert (SemLoc.reg barS, ()) W) : sProp 𝕄)
      = owes (c : Thread nD τ) (Owed c ![0, 0, 0, 0]) (insert (SemLoc.reg barS, ()) W) from by
        rw [show (fun _ => 0 : Fin 4 → ℕ) = ![0, 0, 0, 0] from by funext q; fin_cases q <;> rfl])) $$ HO
    iexact HO
  isplitl [Hs0]; · iexact Hs0
  isplitl [Hs1]; · iexact Hs1
  isplitl [Hs2]; · iexact Hs2
  iexact Hs3

/-- A scale read from scalar memory. -/
theorem read_sx (f : (cc0_stg1_0 : Ref sig .tc).ty.Contents (Elt F)) :
    (Memref.whole cc0_stg1_0 : Memref sig .tc .smem S1 .f32).view.readAt (Elt F) (Rect.unit (s := S1) ![0] S1.size inb_S1_S1_0).toLoadRect f
      = fun _ => f i1 := by
  rw [show f = fun _ => f i1 from funext fun x => congrArg f (idx1_eq x)]
  exact Memref.readAt_unit_zero (Elt F) cc0_stg1_0 (off := ![0]) (funext fun a => by fin_cases a; rfl) inb_S1_S1_0 _
theorem read_sw (f : (cc0_stg2_0 : Ref sig .tc).ty.Contents (Elt F)) :
    (Memref.whole cc0_stg2_0 : Memref sig .tc .smem S1 .f32).view.readAt (Elt F) (Rect.unit (s := S1) ![0] S1.size inb_S1_S1_0).toLoadRect f
      = fun _ => f i1 := by
  rw [show f = fun _ => f i1 from funext fun x => congrArg f (idx1_eq x)]
  exact Memref.readAt_unit_zero (Elt F) cc0_stg2_0 (off := ![0]) (funext fun a => by fin_cases a; rfl) inb_S1_S1_0 _

/-- The two loads of a scale. -/
theorem step_sx {hl} {kk : (S1.Idx → Elt F .f32) → Prog (TpuEff nD τ sig (Elt F) Λ₀ .tc) α} :
    ((c : Thread nD τ).loc cc0_stg1_0 ↦{fullShare} sxst m c : sProp 𝕄) ⊢ iprop(
      (((c : Thread nD τ).loc cc0_stg1_0 ↦{fullShare} sxst m c)
          -∗ wp frame (wpE (defs₀ (F := F)) 𝒱₀ (c : Thread nD τ) none) Set.univ (kk fun _ => sxst m c i1) Q)
      -∗ wp frame (wpE (defs₀ (F := F)) 𝒱₀ (c : Thread nD τ) none) Set.univ
          (.op (.load (Memref.whole cc0_stg1_0) (Rect.unit (s := S1) ![0] S1.size inb_S1_S1_0).toLoadRect hl) kk) Q) := by
  iintro H Hk
  iapply (wp_load 𝒱₀ (c : Thread nD τ) none Set.univ (m := Memref.whole cc0_stg1_0) (S := Finset.univ) (Finset.subset_univ _)) $$ H; iintro H
  have e := congrArg kk (read_sx (sxst m c))
  rw [e]
  iapply Hk $$ H
theorem step_sw {hl} {kk : (S1.Idx → Elt F .f32) → Prog (TpuEff nD τ sig (Elt F) Λ₀ .tc) α} :
    ((c : Thread nD τ).loc cc0_stg2_0 ↦{fullShare} swst m c : sProp 𝕄) ⊢ iprop(
      (((c : Thread nD τ).loc cc0_stg2_0 ↦{fullShare} swst m c)
          -∗ wp frame (wpE (defs₀ (F := F)) 𝒱₀ (c : Thread nD τ) none) Set.univ (kk fun _ => swst m c i1) Q)
      -∗ wp frame (wpE (defs₀ (F := F)) 𝒱₀ (c : Thread nD τ) none) Set.univ
          (.op (.load (Memref.whole cc0_stg2_0) (Rect.unit (s := S1) ![0] S1.size inb_S1_S1_0).toLoadRect hl) kk) Q) := by
  iintro H Hk
  iapply (wp_load 𝒱₀ (c : Thread nD τ) none Set.univ (m := Memref.whole cc0_stg2_0) (S := Finset.univ) (Finset.subset_univ _)) $$ H; iintro H
  have e := congrArg kk (read_sw (swst m c))
  rw [e]
  iapply Hk $$ H

end Cert.KernelIdeal.Hand
-- ==== Proof.Ideal.Ends.lean ====
module

public import proofs.«01_k».proof.Proof.Ideal.Start

/-!
A device's buffers as what its body starts from and ends with: each buffer is its slices, in the order the body takes
them.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD)

/-! ## Families in the body's order -/

theorem each_eq (Φ : Fin 4 → sProp 𝕄) : each Φ = bigSep Finset.univ Φ := by
  rw [bigSep_univ_eq_bigSepL [0, 1, 2, 3] (by decide) (by decide)]; rfl

theorem rows_eq (Φ : Fin 4 → sProp 𝕄) : rows c Φ = bigSep Finset.univ Φ := by
  rw [bigSep_univ_eq_bigSepL [c, c + 3, c + four 1, c + four 2]
    ((by decide : ∀ c : Fin 4, (Finset.univ : Finset (Fin 4)) = [c, c + 3, c + four 1, c + four 2].toFinset) c)
    ((by decide : ∀ c : Fin 4, [c, c + 3, c + four 1, c + four 2].Nodup) c)]
  rfl

theorem owns4_eq (q : Fin 4) (Φ : Fin 4 → sProp 𝕄) : owns4 c q Φ = bigSep Finset.univ Φ := by
  rw [bigSep_univ_eq_bigSepL [ch q c 3, ch q c 4, ch q c 5, ch q c 6]
    ((by decide : ∀ q c : Fin 4, (Finset.univ : Finset (Fin 4)) = [ch q c 3, ch q c 4, ch q c 5, ch q c 6].toFinset) q c)
    ((by decide : ∀ q c : Fin 4, [ch q c 3, ch q c 4, ch q c 5, ch q c 6].Nodup) q c)]
  rfl

theorem slots_eq (q : Fin 4) : (slots c q : sProp 𝕄) = bigSep Finset.univ fun j : Fin 3 => anyOwn c (rs q j) := by
  rw [bigSep_univ_eq_bigSepL [0, 1, 2] (by decide) (by decide)]; rfl

/-- Two indices in either order. -/
theorem bigSep_turn {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun t : I × J => Φ t.1 t.2), ← bigSep_univ_prod (fun t : J × I => Φ t.2 t.1),
    bigSep_univ_equiv (Equiv.prodComm J I)]
  rfl

/-- A family over row and column blocks, ring by ring. -/
theorem grid_eq (Φ : Fin 4 → Fin 4 → sProp 𝕄) :
    (bigSep Finset.univ fun t : Fin 4 × Fin 4 => Φ t.1 t.2) = each fun q => owns4 c q fun k => Φ k q := by
  rw [each_eq, bigSep_univ_prod, bigSep_turn]
  exact bigSep_congr fun q _ => (owns4_eq c q _).symm

/-! ## The scratch buffers -/

theorem xs_split : iprop(∃ f, ((c : Thread nD τ).loc cc0_scratch0 ↦{fullShare} f : sProp 𝕄)) ⊢ iprop(anyOwn c (xsB 0) ∗ anyOwn c (xsB 1)) := by
  have e : (bigSep Finset.univ fun b : Fin 2 => (anyOwn c (xsB b) : sProp 𝕄)) = iprop(anyOwn c (xsB 0) ∗ anyOwn c (xsB 1)) := by
    rw [bigSep_univ_eq_bigSepL [0, 1] (by decide) (by decide)]; rfl
  rw [← e]
  exact (any_slices c cc0_scratch0 xsR (fun _ _ => rfl) xs_family.1 xs_family.2).trans
    (bigSep_mono fun b _ => (anyOwn_squeeze c _ squeezes_S1x1024x1024_S1024x1024).2)
theorem xs_join : iprop(anyOwn c (xsB 0) ∗ anyOwn c (xsB 1)) ⊢ iprop(∃ f, ((c : Thread nD τ).loc cc0_scratch0 ↦{fullShare} f : sProp 𝕄)) := by
  have e : (bigSep Finset.univ fun b : Fin 2 => (anyOwn c (xsB b) : sProp 𝕄)) = iprop(anyOwn c (xsB 0) ∗ anyOwn c (xsB 1)) := by
    rw [bigSep_univ_eq_bigSepL [0, 1] (by decide) (by decide)]; rfl
  rw [← e]
  exact (show _ ⊢ (bigSep Finset.univ fun t => anyOwn c ((Memref.whole cc0_scratch0).slice (xsR t) (fun _ => rfl)) : sProp 𝕄) from
    bigSep_mono fun b _ => (anyOwn_squeeze c _ squeezes_S1x1024x1024_S1024x1024).1).trans
    (slices_any c cc0_scratch0 xsR (fun _ _ => rfl) xs_family.1 xs_family.2)

theorem st_split : iprop(∃ f, ((c : Thread nD τ).loc cc0_scratch3 ↦{fullShare} f : sProp 𝕄)) ⊢ iprop(anyOwn c (stB 0) ∗ anyOwn c (stB 1)) := by
  have e : (bigSep Finset.univ fun b : Fin 2 => (anyOwn c (stB b) : sProp 𝕄)) = iprop(anyOwn c (stB 0) ∗ anyOwn c (stB 1)) := by
    rw [bigSep_univ_eq_bigSepL [0, 1] (by decide) (by decide)]; rfl
  rw [← e]
  exact (any_slices c cc0_scratch3 stR (fun _ _ => rfl) st_family.1 st_family.2).trans
    (bigSep_mono fun b _ => (anyOwn_squeeze c _ squeezes_S1x1024x512_S1024x512).2)
theorem st_join : iprop(anyOwn c (stB 0) ∗ anyOwn c (stB 1)) ⊢ iprop(∃ f, ((c : Thread nD τ).loc cc0_scratch3 ↦{fullShare} f : sProp 𝕄)) := by
  have e : (bigSep Finset.univ fun b : Fin 2 => (anyOwn c (stB b) : sProp 𝕄)) = iprop(anyOwn c (stB 0) ∗ anyOwn c (stB 1)) := by
    rw [bigSep_univ_eq_bigSepL [0, 1] (by decide) (by decide)]; rfl
  rw [← e]
  exact (show _ ⊢ (bigSep Finset.univ fun t => anyOwn c ((Memref.whole cc0_scratch3).slice (stR t) (fun _ => rfl)) : sProp 𝕄) from
    bigSep_mono fun b _ => (anyOwn_squeeze c _ squeezes_S1x1024x512_S1024x512).1).trans
    (slices_any c cc0_scratch3 stR (fun _ _ => rfl) st_family.1 st_family.2)

theorem rs_eq : (each (fun q => slots c q) : sProp 𝕄) = bigSep Finset.univ fun t : Fin 4 × Fin 3 => anyOwn c (rs t.1 t.2) := by
  rw [each_eq, bigSep_univ_prod]; exact bigSep_congr fun q _ => slots_eq c q
theorem rs_split : iprop(∃ f, ((c : Thread nD τ).loc cc0_scratch2 ↦{fullShare} f : sProp 𝕄)) ⊢ each fun q => slots c q := by
  rw [rs_eq]
  exact (any_slices c cc0_scratch2 rsF (fun _ _ => rfl) rs_family.1 rs_family.2).trans
    (bigSep_mono fun b _ => (anyOwn_squeeze c _ squeezes_S1x1x1024x512_S1024x512).2)
theorem rs_join : (each fun q => slots c q) ⊢ iprop(∃ f, ((c : Thread nD τ).loc cc0_scratch2 ↦{fullShare} f : sProp 𝕄)) := by
  rw [rs_eq]
  exact (show _ ⊢ (bigSep Finset.univ fun t => anyOwn c ((Memref.whole cc0_scratch2).slice (rsF t) (fun _ => rfl)) : sProp 𝕄) from
    bigSep_mono fun b _ => (anyOwn_squeeze c _ squeezes_S1x1x1024x512_S1024x512).1).trans
    (slices_any c cc0_scratch2 rsF (fun _ _ => rfl) rs_family.1 rs_family.2)

theorem row_split : iprop(∃ f, ((c : Thread nD τ).loc cc0_scratch1 ↦{fullShare} f : sProp 𝕄)) ⊢ rows c fun k => anyOwn c (rowB k) := by
  rw [rows_eq]
  exact any_slices c cc0_scratch1 rowR (fun _ _ => rfl) row_family.1 row_family.2
theorem blk_join : (each fun q => owns4 c q fun k => anyOwn c (pb k q)) ⊢ iprop(∃ f, ((c : Thread nD τ).loc cc0_scratch1 ↦{fullShare} f : sProp 𝕄)) := by
  rw [← grid_eq c fun k q => anyOwn c (pb k q)]
  exact slices_any c cc0_scratch1 blkF (fun _ _ => rfl) blk_family.1 blk_family.2

/-! ## The operand and the result -/

theorem operand_split : ((c : Thread nD τ).loc main_arg0 ↦{fullShare} m ((c : Thread nD τ).loc main_arg0) : sProp 𝕄) ⊢ operand m c := by
  unfold operand; rw [rows_eq]
  exact whole_slices c main_arg0 xR (fun _ _ => rfl) x_family.1 x_family.2 fullShare (m ((c : Thread nD τ).loc main_arg0))
theorem operand_join : operand m c ⊢ ((c : Thread nD τ).loc main_arg0 ↦{fullShare} m ((c : Thread nD τ).loc main_arg0) : sProp 𝕄) := by
  unfold operand; rw [rows_eq]
  exact slices_whole c main_arg0 xR (fun _ _ => rfl) x_family.1 x_family.2 fullShare (m ((c : Thread nD τ).loc main_arg0))

theorem out_split (f : Buf (Elt F) ((c : Thread nD τ).loc main_v1)) :
    ((c : Thread nD τ).loc main_v1 ↦{fullShare} f : sProp 𝕄) ⊢ each fun q => owns4 c q fun k => anyOwn c (outB k q) := by
  rw [← grid_eq c fun k q => anyOwn c (outB k q)]
  iintro H
  iapply (any_slices c main_v1 blkF (fun _ _ => rfl) blk_family.1 blk_family.2)
  iexists f; iexact H
theorem out_join : (each fun q => owns4 c q fun k => ownsTc c (outB k q) fullShare (wide (fin m k q)))
    ⊢ ((c : Thread nD τ).loc main_v1 ↦{fullShare} result m : sProp 𝕄) := by
  rw [← grid_eq c fun k q => ownsTc c (outB k q) fullShare (wide (fin m k q))]
  exact (Entails.of_eq (bigSep_congr fun t _ => by rw [← result_blk]; rfl)).trans
    (slices_whole c main_v1 blkF (fun _ _ => rfl) blk_family.1 blk_family.2 fullShare (result m))

end Cert.KernelIdeal.Hand
-- ==== Proof.Ideal.Ghost.lean ====
module

public import proofs.«01_k».proof.Proof.Ideal.Ends

/-!
The rings' ghost state at launch: every device's semaphores become its cells, each cell's invariant is shared by all,
each token goes to the device that pays with it, and each receive cell's credit to the device that waits on it.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells -/

/-- One thing for each ring and hop. -/
def hops (Φ : Fin 4 → Fin 6 → sProp 𝕄) : sProp 𝕄 := bigSep Finset.univ fun q => bigSep Finset.univ fun j => Φ q j

theorem bigSep_opt {I : Type} [Fintype I] (Φ : Option I → sProp 𝕄) :
    bigSep Finset.univ Φ = iprop((bigSep Finset.univ fun i => Φ (some i)) ∗ Φ none) := by
  rw [bigSep_univ_equiv (Equiv.optionEquivSumPUnit.{0} I).symm, bigSep_univ_sum,
    bigSep_univ_eq_bigSepL (I := PUnit) [PUnit.unit] (by decide) (by decide)]
  rfl

theorem hop_cells (Φ : Bool × Fin 4 × Fin 6 → sProp 𝕄) :
    bigSep Finset.univ Φ = iprop(hops (fun q j => Φ (false, q, j)) ∗ hops (fun q j => Φ (true, q, j))) := by
  rw [bigSep_univ_prod, bigSep_univ_eq_bigSepL [false, true] (by decide) (by decide), bigSepL_cons_cons, bigSepL_singleton,
    bigSep_univ_prod, bigSep_univ_prod]
  rfl

theorem cells_eq (Φ : CellIx → sProp 𝕄) :
    bigSep Finset.univ Φ = iprop((hops (fun q j => Φ (some (false, q, j))) ∗ hops (fun q j => Φ (some (true, q, j)))) ∗ Φ none) := by
  rw [bigSep_opt, hop_cells]

/-! ## The semaphores the kernel holds of its own -/

/-- Two for the local copies in, two for the local copies out, and one for each end of each hop. -/
abbrev OwnIx : Type := Fin 4 ⊕ (Bool × Fin 4 × Fin 6)
def osem : OwnIx → SemLoc sig
  | .inl i => ![.dma (ldS 0), .dma (ldS 1), .dma (stS 0), .dma (stS 1)] i
  | .inr k => csem (some k)

theorem ownSemFacts : Pipeline.OwnSemFacts cfg0.spec osem := by decide +kernel

/-- The local copies' semaphores at rest. -/
def locals (c : Dev nD) : sProp 𝕄 :=
  iprop(semVal ((c : Thread nD τ), SemLoc.dma (ldS 0)) 0 ∗ semVal ((c : Thread nD τ), SemLoc.dma (ldS 1)) 0
    ∗ semVal ((c : Thread nD τ), SemLoc.dma (stS 0)) 0 ∗ semVal ((c : Thread nD τ), SemLoc.dma (stS 1)) 0)

theorem ownSems0_eq (c : Dev nD) :
    (Pipeline.ownSems0 (Ix := Unit) (Name := ℕ) (U := UU) (Lvl := ℕ) (Val := Elt F) (τ := τ) osem c : sProp 𝕄)
      = iprop(locals c ∗ hops (fun q j => zS q c j.val) ∗ hops (fun q j => zR q c j.val)) := by
  unfold Pipeline.ownSems0
  rw [bigSep_univ_sum, hop_cells, bigSep_univ_eq_bigSepL [0, 1, 2, 3] (by decide) (by decide)]
  rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_cells (c : Dev nD) :
    iprop((hops (fun q j => zS q c j.val) ∗ hops (fun q j => zR q c j.val)) ∗ unscopedSems0 c)
      = (bigSep Finset.univ fun k : CellIx => semVal (kcell (c, k)) 0 : sProp 𝕄) := by
  rw [unscopedSems0_eq, cells_eq]; rfl

/-! ## Cells and tokens -/

theorem csem_injective : Function.Injective csem := by decide +kernel

theorem kcell_injective : Function.Injective kcell := by
  rintro ⟨c, k⟩ ⟨c', k'⟩ h
  have h1 : c = c' := congrArg (fun g : GSem nD τ sig => g.1.1) h
  have h2 : k = k' := csem_injective (congrArg Prod.snd h)
  subst h1 h2; rfl
def ringCells : Finset (GSem nD τ sig) := Finset.univ.map ⟨kcell, kcell_injective⟩

/-- A cell's token `false`; the barrier's second token, `true`. -/
abbrev tokOf (ck : Dev nD × Option CellIx) : GSem nD τ sig × ℕ × Bool :=
  match ck.2 with
  | some k => (kcell (ck.1, k), 0, false)
  | none => (barC ck.1, 0, true)
theorem tokOf_injective : Function.Injective tokOf := by
  rintro ⟨c, _ | k⟩ ⟨c', _ | k'⟩ h
  · have h1 : c = c' := congrArg (fun x : GSem nD τ sig × ℕ × Bool => x.1.1.1) h
    subst h1; rfl
  · exact absurd (congrArg (fun x : GSem nD τ sig × ℕ × Bool => x.2.2) h) (fun h' => nomatch h')
  · exact absurd (congrArg (fun x : GSem nD τ sig × ℕ × Bool => x.2.2) h) (fun h' => nomatch h')
  · have h1 : (c, k) = (c', k') := kcell_injective (congrArg (fun x : GSem nD τ sig × ℕ × Bool => x.1) h)
    cases h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- A token of a send and of a receive cell. -/
def tokS (q : Fin 4) (j : Fin 6) (c : Dev nD) : sProp 𝕄 := dutyTok ER (sndC q j.val c) 0 false
def tokR (q : Fin 4) (j : Fin 6) (c : Dev nD) : sProp 𝕄 := dutyTok ER (rcvC q j.val c) 0 false

/-- The tokens of a device's own cells. -/
def toks (c : Dev nD) : sProp 𝕄 :=
  iprop(((hops (fun q j => tokS q j c) ∗ hops (fun q j => tokR q j c)) ∗ dutyTok ER (barC c) 0 false) ∗ dutyTok ER (barC c) 0 true)

/-- What the launch deals a device. -/
def G (c : Dev nD) : sProp 𝕄 :=
  iprop((bigSep Finset.univ fun k : CellIx => roundState ER (Rd m) (kcell (c, k)) 0)
    ∗ ((bigSep Finset.univ fun k : CellIx => atPos ER (kcell (c, k)) 0 ∅ 0) ∗ bigSep Finset.univ fun k : CellIx => reached ER (kcell (c, k)) 0)
    ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_opt, cells_eq]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Each device's cells allocated, then everything dealt -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CellIx => reached ER (kcell (c, k)) 0)
          ∗ (bigSep Finset.univ fun k : CellIx => atPos ER (kcell (c, k)) 0 ∅ 0) ∗ toks c ∗ locals c) := by
  rw [ownSems0_eq]; unfold G
  iintro ⟨⟨Hl, Hos⟩, Hus, Hst, ⟨Hat, Hr⟩, Htok⟩
  ihave Hv := (Entails.of_eq (sems0_cells (F := F) c)) $$ [Hos Hus]
  · isplitl [Hos] <;> iassumption
  imod (show iprop((bigSep Finset.univ fun k : CellIx => semVal (kcell (c, k)) 0) ∗ bigSep Finset.univ fun k : CellIx => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- What all devices share: every cell's invariant, and that its round 0 is reached. -/
def shared (K : Dev nD × CellIx → ℕ) : sProp 𝕄 :=
  iprop((bigSep Finset.univ fun ci : Dev nD × CellIx => cellInv ER (Rd m) (K ci) (kcell ci))
    ∗ bigSep Finset.univ fun ci : Dev nD × CellIx => reached ER (kcell ci) 0)
instance shared_persistent (K : Dev nD × CellIx → ℕ) : BI.Persistent (shared m K) := by unfold shared; infer_instance

/-- The tokens a device pays with. -/
def pay (c : Dev nD) : sProp 𝕄 :=
  iprop(((hops (fun q j => tokS q j c) ∗ hops (fun q j => tokR q j (dn q c))) ∗ dutyTok ER (barC (c + 1)) 0 false) ∗ dutyTok ER (barC (c + 3)) 0 true)

def own' (c : Dev nD) : sProp 𝕄 :=
  iprop((bigSep Finset.univ fun k : CellIx => atPos ER (kcell (c, k)) 0 ∅ 0) ∗ pay c ∗ locals c)

/-- What a device starts from. -/
def G' (c : Dev nD) : sProp 𝕄 := iprop(∃ K, shared m K ∗ own' c)

def turnBy (a b : Fin 4) (h : ∀ c : Fin 4, c + a + b = c) (h' : ∀ c : Fin 4, c + b + a = c) : Fin 4 ≃ Fin 4 := ⟨(· + a), (· + b), h, h'⟩
def dnE (q : Fin 4) : Fin 4 ≃ Fin 4 := ⟨dn q, up q, up_dn q, dn_up q⟩

/-- A family on ring and device, each ring's turned one device down. -/
theorem turn_ring (Φ : Fin 4 → Fin 4 → sProp 𝕄) :
    (bigSep Finset.univ fun c : Fin 4 => bigSep Finset.univ fun q : Fin 4 => Φ q c)
      = bigSep Finset.univ fun c : Fin 4 => bigSep Finset.univ fun q : Fin 4 => Φ q (dn q c) := by
  rw [bigSep_turn, bigSep_congr (s := Finset.univ) (fun (q : Fin 4) _ => bigSep_univ_equiv (dnE q) (fun c => Φ q c)), bigSep_turn]
  rfl

theorem toks_around : (bigSep Finset.univ fun c : Dev nD => (toks c : sProp 𝕄)) = bigSep Finset.univ fun c : Dev nD => pay c := by
  unfold toks pay hops
  rw [bigSep_sep', bigSep_sep', bigSep_sep', bigSep_sep', bigSep_sep', bigSep_sep',
    bigSep_univ_equiv (turnBy 1 3 (by decide) (by decide)) (fun c : Dev nD => (dutyTok ER (barC c) 0 false : sProp 𝕄)),
    bigSep_univ_equiv (turnBy 3 1 (by decide) (by decide)) (fun c : Dev nD => (dutyTok ER (barC c) 0 true : sProp 𝕄)),
    turn_ring (fun q c => (bigSep Finset.univ fun j => tokR q j c : sProp 𝕄))]
  rfl

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : CellIx => reached ER (kcell (c, k)) 0)
          ∗ (bigSep Finset.univ fun k : CellIx => atPos ER (kcell (c, k)) 0 ∅ 0) ∗ toks c ∗ locals c) : sProp 𝕄)
      ⊢ bigSep Finset.univ (G' m) := by
  rw [bigSep_sep', bigSep_sep', bigSep_sep', bigSep_sep', toks_around,
    ← bigSep_univ_prod (fun ck : Dev nD × CellIx => iprop(∃ κ : ℕ, cellInv ER (Rd m) κ (kcell ck))),
    ← bigSep_univ_prod (fun ck : Dev nD × CellIx => (reached ER (kcell ck) 0 : sProp 𝕄)), ← bigSep_sep', ← bigSep_sep']
  iintro ⟨HI, #HR, Hown⟩
  ihave HK := (BI.bigSep_exists_pi Finset.univ (fun (ck : Dev nD × CellIx) (κ : ℕ) => (cellInv ER (Rd m) κ (kcell ck) : sProp 𝕄))) $$ HI
  icases HK with ⟨%K, #HI⟩
  iapply (bigSep_with (R := shared m K) (Φ := own') (Ψ := G' m) fun c _ => by unfold G'; iintro H; iexists K; iexact H)
  isplitr
  · unfold shared; isplitl; · iexact HI
    iexact HR
  · unfold own'; iexact Hown

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem rcvC_eq {q p : Fin 4} {j i : Fin 6} {c d : Dev nD} (h : rcvC q j.val c = rcvC p i.val d) : q = p ∧ j = i ∧ c = d := by
  have h1 : c = d := congrArg (fun g : GSem nD τ sig => g.1.1) h
  have h2 : csem (some (true, q, j)) = csem (some (true, p, i)) := congrArg Prod.snd h
  have h3 := csem_injective h2
  simp only [Option.some.injEq, Prod.mk.injEq, true_and] at h3
  exact ⟨h3.1, h3.2, h1⟩

theorem bar_ne_rcv (q : Fin 4) (j : ℕ) (c d : Dev nD) : barC c ≠ rcvC q j d := fun h => by
  cases congrArg Prod.snd h

theorem barC_eq {c d : Dev nD} (h : barC c = barC d) : c = d := congrArg (fun g : GSem nD τ sig => g.1.1) h

theorem Owed_bar (d c : Dev nD) (hs : Fin 4 → ℕ) : Owed d hs (barC c) () = 0 := by
  by_contra h
  obtain ⟨q, j, -, hg⟩ := Owed_pos (Nat.pos_of_ne_zero h)
  exact bar_ne_rcv _ _ _ _ hg

theorem owed_bar (d c : Dev nD) : O₀ d (barC c) () = (if d = c + 3 then 1 else 0) + (if d = c + 1 then 1 else 0) := by
  unfold O₀ O₁
  rw [Pi.add_apply, Finsupp.add_apply, Pi.add_apply, Finsupp.add_apply, Owed_bar, tallyAt_apply, tallyAt_apply, Nat.zero_add]
  congr 1
  · by_cases h : d = c + 3
    · subst h; rw [if_pos ⟨congrArg barC ((by decide : ∀ c : Fin 4, c = c + 3 + 1) c), rfl⟩, if_pos rfl]
    · rw [if_neg (fun ⟨h1, _⟩ => h ((by decide : ∀ c d : Fin 4, c = d + 1 → d = c + 3) c d (barC_eq h1))), if_neg h]
  · by_cases h : d = c + 1
    · subst h; rw [if_pos ⟨congrArg barC ((by decide : ∀ c : Fin 4, c = c + 1 + 3) c), rfl⟩, if_pos rfl]
    · rw [if_neg (fun ⟨h1, _⟩ => h ((by decide : ∀ c d : Fin 4, c = d + 3 → d = c + 1) c d (barC_eq h1))), if_neg h]

theorem owed_rcv (q : Fin 4) (j : Fin 6) (d c : Dev nD) : O₀ d (rcvC q j.val c) () = if d = up q c then N else 0 := by
  unfold O₀ O₁ Owed owedR
  rw [Pi.add_apply, Finsupp.add_apply, Pi.add_apply, Finsupp.add_apply,
    tallyAt_ne_cell (fun h => bar_ne_rcv _ _ _ _ h.symm), tallyAt_ne_cell (fun h => bar_ne_rcv _ _ _ _ h.symm), Finsupp.zero_apply,
    Nat.add_zero, Nat.add_zero, Finset.sum_apply, Finsupp.finsetSum_apply,
    Finset.sum_eq_single q (fun p _ hp => ?_) (fun h => absurd (Finset.mem_univ _) h), Finset.sum_apply, Finsupp.finsetSum_apply,
    Finset.sum_eq_single j (fun i _ hi => ?_) (fun h => absurd (Finset.mem_filter.mpr ⟨Finset.mem_univ j, Nat.zero_le j.val⟩) h), tallyAt_apply]
  · by_cases h : d = up q c
    · subst h; rw [dn_up, if_pos ⟨rfl, rfl⟩, if_pos rfl]
    · rw [if_neg (fun ⟨h1, _⟩ => h (by rw [(rcvC_eq h1).2.2, up_dn])), if_neg h]
  · rw [tallyAt_apply, if_neg (fun ⟨h1, _⟩ => hi (rcvC_eq h1).2.1.symm)]
  · rw [Finset.sum_apply, Finsupp.finsetSum_apply]
    exact Finset.sum_eq_zero fun i _ => by rw [tallyAt_apply, if_neg (fun ⟨h1, _⟩ => hp (rcvC_eq h1).1.symm)]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (c + 3) fun _ => 1, Finset.sum_ite_eq' Finset.univ (c + 1) fun _ => 1, if_pos (Finset.mem_univ _), if_pos (Finset.mem_univ _)]

theorem launch_rcv (q : Fin 4) (j : Fin 6) (c : Dev nD) :
    tallyOn (rcvC q j.val c) (launchCredit (Pipeline.owing O₀) 0 (rcvC q j.val c)) = (tallyAt (rcvC q j.val c) () N : CellTallies nD τ sig Unit) := by
  unfold tallyAt; refine congrArg _ (Finsupp.ext fun u => ?_); cases u
  rw [Pipeline.launchCredit_owing, Finsupp.single_eq_same, Finset.sum_congr rfl fun d _ => owed_rcv q j d c,
    Finset.sum_ite_eq' Finset.univ (up q c) fun _ => N, if_pos (Finset.mem_univ _)]

def rcvSem : Fin 4 × Fin 6 ↪ SemLoc sig :=
  ⟨fun t => csem (some (true, t.1, t.2)), fun a b h => by
    have h3 := csem_injective h
    simp only [Option.some.injEq, Prod.mk.injEq, true_and] at h3
    exact Prod.ext h3.1 h3.2⟩

theorem creds (c : Dev nD) :
    (Pipeline.launchCred O₀ c : sProp 𝕄) ⊢ iprop(cred (tallyAt (barC c) () 2) ∗ hops fun q j => cred (tallyAt (rcvC q j.val c) () N)) := by
  unfold Pipeline.launchCred hops
  rw [bigSep_univ_at _ (SemLoc.reg barS), launch_bar]
  refine sep_mono_right ?_
  have hsub : Finset.univ.map rcvSem ⊆ (Finset.univ : Finset (SemLoc sig)).erase (.reg barS) := fun s hs => by
    obtain ⟨t, -, rfl⟩ := Finset.mem_map.mp hs
    refine Finset.mem_erase.mpr ⟨fun h => ?_, Finset.mem_univ _⟩
    cases csem_injective (show csem (some (true, t.1, t.2)) = csem none from h)
  refine Entails.trans (bigSep_subset hsub) (Entails.of_eq ?_)
  rw [bigSep_map, bigSep_univ_prod]
  exact bigSep_congr fun q _ => bigSep_congr fun j _ => congrArg cred (launch_rcv q j c)

/-! ## What the body starts from and ends with -/

theorem from_zero (Φ : ℕ → sProp 𝕄) : from' 0 Φ = bigSep Finset.univ fun j : Fin 6 => Φ j.val := by
  unfold from'; rw [Finset.filter_true_of_mem fun j _ => Nat.zero_le _]
theorem from_six (Φ : ℕ → sProp 𝕄) : from' 6 Φ = iprop(emp) := by
  unfold from'; rw [Finset.filter_false_of_mem fun j _ => Nat.not_le.mpr j.isLt]; exact bigSep_empty
theorem upto_zero (Φ : ℕ → sProp 𝕄) : upto 0 Φ = iprop(emp) := by
  unfold upto; rw [Finset.filter_false_of_mem fun j _ => Nat.not_lt_zero _]; exact bigSep_empty
theorem upto_six (Φ : ℕ → sProp 𝕄) : upto 6 Φ = bigSep Finset.univ fun j : Fin 6 => Φ j.val := by
  unfold upto; rw [Finset.filter_true_of_mem fun j _ => j.isLt]

theorem pad (A B C : sProp 𝕄) : iprop(A ∗ B ∗ C) ⊢ iprop(A ∗ B ∗ C ∗ emp ∗ emp) := by
  iintro ⟨H1, H2, H3⟩
  isplitl [H1]; · iexact H1
  isplitl [H2]; · iexact H2
  isplitl [H3]; · iexact H3
  isplitl <;> iempintro
theorem unpad (A : sProp 𝕄) : iprop(emp ∗ emp ∗ emp ∗ A) ⊢ A := by
  iintro ⟨-, -, -, H⟩; iexact H

theorem idle_start (c : Dev nD) :
    iprop((hops (fun q j => tokS q j c) ∗ hops (fun q j => tokR q j (dn q c)))
      ∗ hops (fun q j => posS q c j.val) ∗ hops (fun q j => atPos ER (rcvC q j.val c) 0 ∅ 0) ∗ hops (fun q j => cred (tallyAt (rcvC q j.val c) () N)))
      ⊢ (each fun q => Idle q c 0 : sProp 𝕄) := by
  have e : (each fun q => Idle q c 0 : sProp 𝕄)
      = bigSep Finset.univ fun q : Fin 4 => iprop(((bigSep Finset.univ fun j : Fin 6 => tokS q j c) ∗ bigSep Finset.univ fun j : Fin 6 => tokR q j (dn q c))
        ∗ (bigSep Finset.univ fun j : Fin 6 => posS q c j.val)
        ∗ ((bigSep Finset.univ fun j : Fin 6 => atPos ER (rcvC q j.val c) 0 ∅ 0) ∗ bigSep Finset.univ fun j : Fin 6 => cred (tallyAt (rcvC q j.val c) () N))
        ∗ emp ∗ emp) := by
    rw [each_eq]
    refine bigSep_congr fun q _ => ?_
    unfold Idle St; rw [from_zero, from_zero, from_zero, upto_zero, upto_zero]
    unfold tokAt posR; rw [bigSep_sep', bigSep_sep']; rfl
  rw [e]; unfold hops; rw [← bigSep_sep', ← bigSep_sep', ← bigSep_sep', ← bigSep_sep']
  exact bigSep_mono fun q _ => pad _ _ _

theorem idle_end (c : Dev nD) :
    (each fun q => Idle q c 6 : sProp 𝕄) ⊢ iprop(hops (fun q j => zS q c j.val) ∗ hops (fun q j => zR q c j.val)) := by
  have e : (each fun q => Idle q c 6 : sProp 𝕄)
      = bigSep Finset.univ fun q : Fin 4 => iprop(emp ∗ emp ∗ emp ∗ (bigSep Finset.univ fun j : Fin 6 => zS q c j.val) ∗ bigSep Finset.univ fun j : Fin 6 => zR q c j.val) := by
    rw [each_eq]
    refine bigSep_congr fun q _ => ?_
    unfold Idle St; rw [from_six, from_six, from_six, upto_six, upto_six]
  rw [e]; unfold hops; rw [← bigSep_sep']
  exact bigSep_mono fun q _ => unpad _

end Cert.KernelIdeal.Hand
-- ==== Proof.Ideal.Body.lean ====
module

public import proofs.«01_k».proof.Proof.Ideal.Start

/-!
One device's body, walked from its start to its end by the moves.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ)
variable (c : Dev nD)

variable {α : Type} {Q : α → sProp (MT nD τ sig Unit (Elt F) ℕ UU ℕ)}

theorem each_elim (Φ : Fin 4 → sProp 𝕄) : each Φ ⊢ iprop(Φ 0 ∗ Φ 1 ∗ Φ 2 ∗ Φ 3) := .rfl
theorem each_intro (Φ : Fin 4 → sProp 𝕄) : Φ 0 ⊢ iprop(Φ 1 -∗ Φ 2 -∗ Φ 3 -∗ each Φ) := by
  unfold each; iintro H0 H1 H2 H3
  isplitl [H0]; · iexact H0
  isplitl [H1]; · iexact H1
  isplitl [H2] <;> iassumption
theorem rows_elim (Φ : Fin 4 → sProp 𝕄) : rows c Φ ⊢ iprop(Φ c ∗ Φ (c + 3) ∗ Φ (c + four 1) ∗ Φ (c + four 2)) := .rfl
theorem rows_intro (Φ : Fin 4 → sProp 𝕄) : Φ c ⊢ iprop(Φ (c + 3) -∗ Φ (c + four 1) -∗ Φ (c + four 2) -∗ rows c Φ) := by
  unfold rows; iintro H0 H1 H2 H3
  isplitl [H0]; · iexact H0
  isplitl [H1]; · iexact H1
  isplitl [H2] <;> iassumption
theorem owns4_elim (q : Fin 4) (Φ : Fin 4 → sProp 𝕄) :
    owns4 c q Φ ⊢ iprop(Φ (ch q c 3) ∗ Φ (ch q c 4) ∗ Φ (ch q c 5) ∗ Φ (ch q c 6)) := .rfl
theorem owns4_intro (q : Fin 4) (Φ : Fin 4 → sProp 𝕄) :
    Φ (ch q c 3) ⊢ iprop(Φ (ch q c 4) -∗ Φ (ch q c 5) -∗ Φ (ch q c 6) -∗ owns4 c q Φ) := by
  unfold owns4; iintro H0 H1 H2 H3
  isplitl [H0]; · iexact H0
  isplitl [H1]; · iexact H1
  isplitl [H2] <;> iassumption
theorem slots_elim (u : Dev nD) (q : Fin 4) : (slots u q : sProp 𝕄) ⊢ iprop(anyOwn u (rs q (tri 0)) ∗ anyOwn u (rs q (tri 1)) ∗ anyOwn u (rs q (tri 2))) := .rfl
theorem slots_intro (q : Fin 4) : (anyOwn c (rs q (tri 0)) : sProp 𝕄) ⊢ iprop(anyOwn c (rs q (tri 1)) -∗ anyOwn c (rs q (tri 2)) -∗ slots c q) := by
  show (anyOwn c (rs q 0) : sProp 𝕄) ⊢ iprop(anyOwn c (rs q 1) -∗ anyOwn c (rs q 2) -∗ slots c q)
  unfold slots; iintro H0 H1 H2
  isplitl [H0]; · iexact H0
  isplitl [H1] <;> iassumption

/-- The block of the first hop is the device's own product. -/
theorem first_block (q : Fin 4) :
    (ownsTc c (pb (ch q c 0) q) fullShare (P m q c (ch q c 0)) : sProp 𝕄) ⊢ ownsTc c (pb (ch q c 0) q) fullShare (A m q 0 c) := .rfl
/-- The finished block is the scaled sum of the last hop. -/
theorem own_block (q : Fin 4) :
    (ownsTc c (pb (ch q c 3) q) fullShare (relu (scale m c) (A m q 3 c)) : sProp 𝕄) ⊢ ownsTc c (pb (ch q c 3) q) fullShare (V m q 0 c) := .rfl

theorem Ow_six : (Ow c ![6, 6, 6, 6] : sProp 𝕄) ⊢ Ow c (fun _ => 6) :=
  Entails.of_eq (congrArg (Ow c) (by funext q; fin_cases q <;> rfl))

/-- The result's block stored on turn `t` is the one sent on hop `t`. -/
theorem again (q : Fin 4) (t : ℕ) : off (ch q c t) q = off (ch q c (3 + t + 1)) q := by
  rw [show 3 + t + 1 = t + 4 from by omega, ch_period]

/-- Ring `q`'s blocks of the result, each in its place. -/
theorem finished (q : Fin 4) :
    (ownsTc c (outB (ch q c 3) q) fullShare (wide (V m q 0 c)) : sProp 𝕄) ⊢ iprop(
      ownsTc c (outB (ch q c 4) q) fullShare (wide (V m q 1 c)) -∗ ownsTc c (outB (ch q c 5) q) fullShare (wide (V m q 2 c))
      -∗ ownsTc c (outB (ch q c 6) q) fullShare (wide (V m q 3 c)) -∗ owns4 c q fun k => ownsTc c (outB k q) fullShare (wide (fin m k q))) := by
  rw [V_eq, V_eq, V_eq, V_eq]
  exact owns4_intro c q (fun k => ownsTc c (outB k q) fullShare (wide (fin m k q)))

/-! The rings' hops at which each row block is sent. -/
theorem row0_even : ∀ c q : Fin 4, even q = true → ch q c 0 = c := by decide
theorem row0_odd : ∀ c q : Fin 4, even q = false → ch q c 0 = c := by decide
theorem row1_even : ∀ c q : Fin 4, even q = true → ch q c 1 = c + 3 := by decide
theorem row1_odd : ∀ c q : Fin 4, even q = false → ch q c 3 = c + 3 := by decide
theorem row2_even : ∀ c q : Fin 4, even q = true → ch q c 3 = c + four 1 := by decide
theorem row2_odd : ∀ c q : Fin 4, even q = false → ch q c 1 = c + four 1 := by decide
theorem row3_even : ∀ c q : Fin 4, even q = true → ch q c 2 = c + four 2 := by decide
theorem row3_odd : ∀ c q : Fin 4, even q = false → ch q c 2 = c + four 2 := by decide

set_option maxRecDepth 20000 in
set_option maxHeartbeats 4000000 in
theorem sound_body (Kt : PUnit → sProp (MT nD τ sig Unit (Elt F) ℕ UU ℕ)) :
    (Rec m K : sProp 𝕄) ⊢ iprop(before m c -∗ (after m c -∗ Kt ⟨⟩) -∗ wp frame (wpE (defs₀ (F := F)) 𝒱₀ (c : Thread nD τ) none) Set.univ
      (cc0_body (Memref.whole main_arg0) (Memref.isWhole_whole _) (Memref.whole cc0_stg0_0) (Memref.isWhole_whole _)
        (Memref.whole cc0_stg1_0) (Memref.isWhole_whole _) (Memref.whole cc0_stg2_0) (Memref.isWhole_whole _)
        (Memref.whole main_v1) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 cc0_scratch6 cc0_scratch7) Kt) := by
  simp only [cc0_body_eq_skeleton]
  unfold cc0_body_skel
  unfold k0_part61
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel,
    k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel,
    k0_part46_eq_skeleton, k0_part46_skel, k0_part47_eq_skeleton, k0_part47_skel, k0_part48_eq_skeleton, k0_part48_skel,
    k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel,
    k0_part55_eq_skeleton, k0_part55_skel, k0_part56_eq_skeleton, k0_part56_skel, k0_part57_eq_skeleton, k0_part57_skel,
    k0_part58_eq_skeleton, k0_part58_skel, k0_part59_eq_skeleton, k0_part59_skel, k0_part60_eq_skeleton, k0_part60_skel,
    semSignalWord, semWaitWord, smemLoad, smemLoadElt, Prog.lift, Prog.bind_op, Prog.bind_ret, Prog.pure_eq_ret, wp_deviceId]
  unfold before
  iintro #HR ⟨Hb, Hi, Ho, Hs, Hst, Hx, Hrest, Hr, Hu⟩ Hk
  ihave Hi := (each_elim _) $$ Hi
  icases Hi with ⟨Hi0, Hi1, Hi2, Hi3⟩
  unfold staged
  icases Hst with ⟨Hw, Hsx, Hsw⟩
  unfold operand
  ihave Hx := (rows_elim c _) $$ Hx
  icases Hx with ⟨Hx0, Hx1, Hx2, Hx3⟩
  unfold rest
  icases Hrest with ⟨Hxs0, Hxs1, Hst0, Hst1⟩
  ihave Hr := (rows_elim c _) $$ Hr
  icases Hr with ⟨Hr0, Hr1, Hr2, Hr3⟩
  ihave Hu := (each_elim _) $$ Hu
  icases Hu with ⟨Hu0, Hu1, Hu2, Hu3⟩
  ihave Hu0 := (owns4_elim c 0 _) $$ Hu0
  icases Hu0 with ⟨Hu00, Hu01, Hu02, Hu03⟩
  ihave Hu1 := (owns4_elim c 1 _) $$ Hu1
  icases Hu1 with ⟨Hu10, Hu11, Hu12, Hu13⟩
  ihave Hu2 := (owns4_elim c 2 _) $$ Hu2
  icases Hu2 with ⟨Hu20, Hu21, Hu22, Hu23⟩
  ihave Hu3 := (owns4_elim c 3 _) $$ Hu3
  icases Hu3 with ⟨Hu30, Hu31, Hu32, Hu33⟩
  iapply (step_sync m K c (dev1_eq c) (dev2_eq c)) $$ HR Hb Ho Hs
  iintro ⟨HzB, Ho, Hd⟩
  ihave Hd := (each_elim _) $$ Hd
  icases Hd with ⟨Hd0, Hd1, Hd2, Hd3⟩
  ihave Hd0 := (slots_elim _ 0) $$ Hd0
  icases Hd0 with ⟨Hd00, Hd01, Hd02⟩
  ihave Hd1 := (slots_elim _ 1) $$ Hd1
  icases Hd1 with ⟨Hd10, Hd11, Hd12⟩
  ihave Hd2 := (slots_elim _ 2) $$ Hd2
  icases Hd2 with ⟨Hd20, Hd21, Hd22⟩
  ihave Hd3 := (slots_elim _ 3) $$ Hd3
  icases Hd3 with ⟨Hd30, Hd31, Hd32⟩
  -- the products, and the first hop once the device's own rows are there
  iapply (load_x c 0 c (off1_eq c)) $$ Hxs0 Hx0
  iintro Hxs0
  iapply (wait_x m K c 0 c ![0, 0, 0, 0]) $$ HR Hxs0 Ho
  iintro ⟨Hxs0, Hv, Hx0, Ho⟩
  iapply (load_x c 1 (c + 3) (off2_eq c)) $$ Hxs1 Hx1
  iintro Hxs1
  iapply (step_mul c 0 c (off3_eq c) (fun Y w => k0_pay2 (k0_pay1 Y) w) (fun _ _ => rfl)) $$ Hxs0 Hw Hr0
  iintro ⟨Hxs0, Hw, Hr0⟩
  ihave Hr0 := (row_rings m c c 0 0 (fun q => row0_even c q) (fun q => row0_odd c q)) $$ Hr0
  icases Hr0 with ⟨Hp00, Hp10, Hp20, Hp30⟩
  ihave Hxs0 := (XSlot_back c 0 _) $$ Hxs0 Hv
  ihave Hp00 := (first_block m c 0) $$ Hp00
  ihave Hp10 := (first_block m c 1) $$ Hp10
  ihave Hp20 := (first_block m c 2) $$ Hp20
  ihave Hp30 := (first_block m c 3) $$ Hp30
  iapply (send_rs m K c 0 0 (by decide) (dev3_eq c) ![0, 0, 0, 0] ![1, 0, 0, 0] rfl rfl (by decide) (off4_eq c 0) (handb_none c 0 0 (by decide))) $$ HR Hi0 Ho Hp00 Hd00 HR
  iintro ⟨Hi0, Ho⟩
  iapply (send_rs m K c 1 0 (by decide) (dev4_eq c) ![1, 0, 0, 0] ![1, 1, 0, 0] rfl rfl (by decide) (off5_eq c 0) (handb_none c 1 0 (by decide))) $$ HR Hi1 Ho Hp10 Hd10 HR
  iintro ⟨Hi1, Ho⟩
  iapply (send_rs m K c 2 0 (by decide) (dev5_eq c) ![1, 1, 0, 0] ![1, 1, 1, 0] rfl rfl (by decide) (off6_eq c 0) (handb_none c 2 0 (by decide))) $$ HR Hi2 Ho Hp20 Hd20 HR
  iintro ⟨Hi2, Ho⟩
  iapply (send_rs m K c 3 0 (by decide) (dev6_eq c) ![1, 1, 1, 0] ![1, 1, 1, 1] rfl rfl (by decide) (off7_eq c 0) (handb_none c 3 0 (by decide))) $$ HR Hi3 Ho Hp30 Hd30 HR
  iintro ⟨Hi3, Ho⟩
  iapply (wait_x m K c 1 (c + 3) ![1, 1, 1, 1]) $$ HR Hxs1 Ho
  iintro ⟨Hxs1, Hv, Hx1, Ho⟩
  iapply (load_x c 0 (c + four 1) (off8_eq c 0)) $$ Hxs0 Hx2
  iintro Hxs0
  iapply (step_mul c 1 (c + 3) (off9_eq c) k0_pay3 (fun _ _ => rfl)) $$ Hxs1 Hw Hr1
  iintro ⟨Hxs1, Hw, Hr1⟩
  ihave Hr1 := (row_rings m c (c + 3) 1 3 (fun q => row1_even c q) (fun q => row1_odd c q)) $$ Hr1
  icases Hr1 with ⟨Hp01, Hp13, Hp21, Hp33⟩
  ihave Hxs1 := (XSlot_back c 1 _) $$ Hxs1 Hv
  iapply (wait_x m K c 0 (c + four 1) ![1, 1, 1, 1]) $$ HR Hxs0 Ho
  iintro ⟨Hxs0, Hv, Hx2, Ho⟩
  iapply (load_x c 1 (c + four 2) (off8_eq c 1)) $$ Hxs1 Hx3
  iintro Hxs1
  iapply (step_mul c 0 (c + four 1) (off10_eq c 0) k0_pay4 (fun _ _ => rfl)) $$ Hxs0 Hw Hr2
  iintro ⟨Hxs0, Hw, Hr2⟩
  ihave Hr2 := (row_rings m c (c + four 1) 3 1 (fun q => row2_even c q) (fun q => row2_odd c q)) $$ Hr2
  icases Hr2 with ⟨Hp03, Hp11, Hp23, Hp31⟩
  ihave Hxs0 := (XSlot_back c 0 _) $$ Hxs0 Hv
  iapply (wait_x m K c 1 (c + four 2) ![1, 1, 1, 1]) $$ HR Hxs1 Ho
  iintro ⟨Hxs1, Hv, Hx3, Ho⟩
  iapply (step_mul c 1 (c + four 2) (off10_eq c 1) k0_pay5 (fun _ _ => rfl)) $$ Hxs1 Hw Hr3
  iintro ⟨Hxs1, Hw, Hr3⟩
  ihave Hr3 := (row_rings m c (c + four 2) 2 2 (fun q => row3_even c q) (fun q => row3_odd c q)) $$ Hr3
  icases Hr3 with ⟨Hp02, Hp12, Hp22, Hp32⟩
  ihave Hxs1 := (XSlot_back c 1 _) $$ Hxs1 Hv
  -- the reduce-scatter
  iapply (turn_rs m K c 0 0 (by decide) ![1, 1, 1, 1] (by decide) (off11_eq c 0) k0_pay6 (fun _ _ => rfl) (handb_drop 0 0 (up 0 c))) $$ HR Hi0 Ho Hp01
  iintro ⟨Hi0, Ho, Hp01, Hp00, Hs00, -⟩
  iapply (send_rs m K c 0 1 (by decide) (dev7_eq c) ![1, 1, 1, 1] ![2, 1, 1, 1] rfl rfl (by decide) (off4_eq c 1) (handb_none c 0 1 (by decide))) $$ HR Hi0 Ho Hp01 Hd01 HR
  iintro ⟨Hi0, Ho⟩
  iapply (turn_rs m K c 1 0 (by decide) ![2, 1, 1, 1] (by decide) (off12_eq c 0) k0_pay7 (fun _ _ => rfl) (handb_drop 1 0 (up 1 c))) $$ HR Hi1 Ho Hp11
  iintro ⟨Hi1, Ho, Hp11, Hp10, Hs10, -⟩
  iapply (send_rs m K c 1 1 (by decide) (dev8_eq c) ![2, 1, 1, 1] ![2, 2, 1, 1] rfl rfl (by decide) (off5_eq c 1) (handb_give c 1 0 1 (by decide) rfl 0 rfl)) $$ HR Hi1 Ho Hp11 Hd11 Hp00
  iintro ⟨Hi1, Ho⟩
  iapply (turn_rs m K c 2 0 (by decide) ![2, 2, 1, 1] (by decide) (off13_eq c 0) k0_pay8 (fun _ _ => rfl) (handb_drop 2 0 (up 2 c))) $$ HR Hi2 Ho Hp21
  iintro ⟨Hi2, Ho, Hp21, Hp20, Hs20, -⟩
  iapply (send_rs m K c 2 1 (by decide) (dev9_eq c) ![2, 2, 1, 1] ![2, 2, 2, 1] rfl rfl (by decide) (off6_eq c 1) (handb_none c 2 1 (by decide))) $$ HR Hi2 Ho Hp21 Hd21 HR
  iintro ⟨Hi2, Ho⟩
  iapply (turn_rs m K c 3 0 (by decide) ![2, 2, 2, 1] (by decide) (off14_eq c 0) k0_pay9 (fun _ _ => rfl) (handb_drop 3 0 (up 3 c))) $$ HR Hi3 Ho Hp31
  iintro ⟨Hi3, Ho, Hp31, Hp30, Hs30, -⟩
  iapply (send_rs m K c 3 1 (by decide) (dev10_eq c) ![2, 2, 2, 1] ![2, 2, 2, 2] rfl rfl (by decide) (off7_eq c 1) (handb_give c 3 0 1 (by decide) rfl 2 rfl)) $$ HR Hi3 Ho Hp31 Hd31 Hp20
  iintro ⟨Hi3, Ho⟩
  iapply (turn_rs m K c 0 1 (by decide) ![2, 2, 2, 2] (by decide) (off11_eq c 1) k0_pay10 (fun _ _ => rfl) (handb_drop 0 1 (up 0 c))) $$ HR Hi0 Ho Hp02
  iintro ⟨Hi0, Ho, Hp02, Hp01, Hs01, -⟩
  iapply (send_rs m K c 0 2 (by decide) (dev11_eq c) ![2, 2, 2, 2] ![3, 2, 2, 2] rfl rfl (by decide) (off4_eq c 2) (handb_give c 0 0 2 (by decide) rfl 1 rfl)) $$ HR Hi0 Ho Hp02 Hd02 Hp10
  iintro ⟨Hi0, Ho⟩
  iapply (turn_rs m K c 1 1 (by decide) ![3, 2, 2, 2] (by decide) (off12_eq c 1) k0_pay11 (fun _ _ => rfl) (handb_take c 1 0 1 (by decide) rfl 0 rfl)) $$ HR Hi1 Ho Hp12
  iintro ⟨Hi1, Ho, Hp12, Hp11, Hs11, Hl00⟩
  iapply (send_rs m K c 1 2 (by decide) (dev12_eq c) ![3, 2, 2, 2] ![3, 3, 2, 2] rfl rfl (by decide) (off5_eq c 2) (handb_give c 1 1 2 (by decide) rfl 0 rfl)) $$ HR Hi1 Ho Hp12 Hd12 Hp01
  iintro ⟨Hi1, Ho⟩
  iapply (turn_rs m K c 2 1 (by decide) ![3, 3, 2, 2] (by decide) (off13_eq c 1) (fun a Y => k0_pay13 (k0_pay12 a Y)) (fun _ _ => rfl) (handb_drop 2 1 (up 2 c))) $$ HR Hi2 Ho Hp22
  iintro ⟨Hi2, Ho, Hp22, Hp21, Hs21, -⟩
  iapply (send_rs m K c 2 2 (by decide) (dev13_eq c) ![3, 3, 2, 2] ![3, 3, 3, 2] rfl rfl (by decide) (off6_eq c 2) (handb_give c 2 0 2 (by decide) rfl 3 rfl)) $$ HR Hi2 Ho Hp22 Hd22 Hp30
  iintro ⟨Hi2, Ho⟩
  iapply (turn_rs m K c 3 1 (by decide) ![3, 3, 3, 2] (by decide) (off14_eq c 1) k0_pay14 (fun _ _ => rfl) (handb_take c 3 0 1 (by decide) rfl 2 rfl)) $$ HR Hi3 Ho Hp32
  iintro ⟨Hi3, Ho, Hp32, Hp31, Hs31, Hl20⟩
  iapply (send_rs m K c 3 2 (by decide) (dev14_eq c) ![3, 3, 3, 2] ![3, 3, 3, 3] rfl rfl (by decide) (off7_eq c 2) (handb_give c 3 1 2 (by decide) rfl 2 rfl)) $$ HR Hi3 Ho Hp32 Hd32 Hp21
  iintro ⟨Hi3, Ho⟩
  iapply (turn_rs m K c 0 2 (by decide) ![3, 3, 3, 3] (by decide) (off11_eq c 2) k0_pay15 (fun _ _ => rfl) (handb_take c 0 0 2 (by decide) rfl 1 rfl)) $$ HR Hi0 Ho Hp03
  iintro ⟨Hi0, Ho, Hp03, Hp02, Hs02, Hl10⟩
  iapply (turn_rs m K c 1 2 (by decide) ![3, 3, 3, 3] (by decide) (off12_eq c 2) (fun a Y => k0_pay17 (k0_pay16 a Y)) (fun _ _ => rfl) (handb_take c 1 1 2 (by decide) rfl 0 rfl)) $$ HR Hi1 Ho Hp13
  iintro ⟨Hi1, Ho, Hp13, Hp12, Hs12, Hl01⟩
  iapply (turn_rs m K c 2 2 (by decide) ![3, 3, 3, 3] (by decide) (off13_eq c 2) k0_pay18 (fun _ _ => rfl) (handb_take c 2 0 2 (by decide) rfl 3 rfl)) $$ HR Hi2 Ho Hp23
  iintro ⟨Hi2, Ho, Hp23, Hp22, Hs22, Hl30⟩
  iapply (turn_rs m K c 3 2 (by decide) ![3, 3, 3, 3] (by decide) (off14_eq c 2) k0_pay19 (fun _ _ => rfl) (handb_take c 3 1 2 (by decide) rfl 2 rfl)) $$ HR Hi3 Ho Hp33
  iintro ⟨Hi3, Ho, Hp33, Hp32, Hs32, Hl21⟩
  -- the scaling
  iapply (step_sx m c) $$ Hsx
  iintro Hsx
  iapply (step_sw m c) $$ Hsw
  iintro Hsw
  iapply (step_relu c (ch 0 c 3) 0 (scale m c) (off15_eq c) (fun a => k0_pay22 a (k0_pay21 (sxst m c i1) (swst m c i1))) (fun _ => rfl)) $$ Hp03
  iintro Hv00
  ihave Hv00 := (own_block m c 0) $$ Hv00
  iapply (step_relu c (ch 1 c 3) 1 (scale m c) (off16_eq c) (fun a => k0_pay24 (k0_pay23 (scale m c) a)) (fun _ => rfl)) $$ Hp13
  iintro Hv10
  ihave Hv10 := (own_block m c 1) $$ Hv10
  iapply (step_relu c (ch 2 c 3) 2 (scale m c) (off17_eq c) (fun a => k0_pay26 (k0_pay25 (scale m c) a)) (fun _ => rfl)) $$ Hp23
  iintro Hv20
  ihave Hv20 := (own_block m c 2) $$ Hv20
  iapply (step_relu c (ch 3 c 3) 3 (scale m c) (off18_eq c) (fun a => k0_pay28 (k0_pay27 (scale m c) a)) (fun _ => rfl)) $$ Hp33
  iintro Hv30
  ihave Hv30 := (own_block m c 3) $$ Hv30
  -- the all-gather and the stores
  iapply (send_ag m K c 0 0 3 (by decide) rfl (dev15_eq c) ![3, 3, 3, 3] ![4, 3, 3, 3] rfl rfl (by decide) (off19_eq c 0) (handb_give c 0 1 3 (by decide) rfl 1 rfl)) $$ HR Hi0 Ho Hv00 Hl00 Hp11
  iintro ⟨Hi0, Ho, Hv00⟩
  iapply (send_ag m K c 1 0 3 (by decide) rfl (dev16_eq c) ![4, 3, 3, 3] ![4, 4, 3, 3] rfl rfl (by decide) (off20_eq c 0) (handb_give c 1 2 3 (by decide) rfl 0 rfl)) $$ HR Hi1 Ho Hv10 Hl10 Hp02
  iintro ⟨Hi1, Ho, Hv10⟩
  iapply (send_ag m K c 2 0 3 (by decide) rfl (dev17_eq c) ![4, 4, 3, 3] ![4, 4, 4, 3] rfl rfl (by decide) (off21_eq c 0) (handb_give c 2 1 3 (by decide) rfl 3 rfl)) $$ HR Hi2 Ho Hv20 Hl20 Hp31
  iintro ⟨Hi2, Ho, Hv20⟩
  iapply (send_ag m K c 3 0 3 (by decide) rfl (dev18_eq c) ![4, 4, 4, 3] ![4, 4, 4, 4] rfl rfl (by decide) (off22_eq c 0) (handb_give c 3 2 3 (by decide) rfl 2 rfl)) $$ HR Hi3 Ho Hv30 Hl30 Hp22
  iintro ⟨Hi3, Ho, Hv30⟩
  iapply (step_out c (ch 0 c 3) 0 0 (off15_eq c) (off23_eq c) k0_pay29 (fun _ => rfl)) $$ Hv00 Hst0 Hu00
  iintro ⟨Hv00, Hst0⟩
  iapply (step_out c (ch 1 c 3) 1 1 (off16_eq c) (off24_eq c) k0_pay30 (fun _ => rfl)) $$ Hv10 Hst1 Hu10
  iintro ⟨Hv10, Hst1⟩
  iapply (turn_out m K c (ch 2 c 3) 2 0 (ch 0 c 3) 0 ![4, 4, 4, 4] (off17_eq c) (off25_eq c) (fun v => k0_pay32 (k0_pay31 v)) (fun _ => rfl)) $$ HR Hst0 Ho Hv20 Hu20
  iintro ⟨Hv20, Hst0, Hu00, Ho⟩
  iapply (turn_out m K c (ch 3 c 3) 3 1 (ch 1 c 3) 1 ![4, 4, 4, 4] (off18_eq c) (off26_eq c) k0_pay33 (fun _ => rfl)) $$ HR Hst1 Ho Hv30 Hu30
  iintro ⟨Hv30, Hst1, Hu10, Ho⟩
  iapply (turn_ag m K c 0 0 3 (by decide) rfl ![4, 4, 4, 4] (by decide) (handb_take c 0 1 3 (by decide) rfl 1 rfl)) $$ HR Hi0 Ho Hv00
  iintro ⟨Hi0, Ho, Hf00, Hv01, Hl11⟩
  iapply (send_ag m K c 0 1 4 (by decide) rfl (dev19_eq c) ![4, 4, 4, 4] ![5, 4, 4, 4] rfl rfl (by decide) (off19_eq c 1) (handb_give c 0 2 4 (by decide) rfl 1 rfl)) $$ HR Hi0 Ho Hv01 Hl01 Hp12
  iintro ⟨Hi0, Ho, Hv01⟩
  iapply (turn_out m K c (ch 0 c 4) 0 0 (ch 2 c 3) 2 ![5, 4, 4, 4] (off27_eq c 0) ((off4_eq c 0).trans (again c 0 0)) (fun v => k0_pay35 (k0_pay34 v)) (fun _ => rfl)) $$ HR Hst0 Ho Hv01 Hu01
  iintro ⟨Hv01, Hst0, Hu20, Ho⟩
  iapply (turn_ag m K c 1 0 3 (by decide) rfl ![5, 4, 4, 4] (by decide) (handb_take c 1 2 3 (by decide) rfl 0 rfl)) $$ HR Hi1 Ho Hv10
  iintro ⟨Hi1, Ho, Hf10, Hv11, Hl02⟩
  iapply (send_ag m K c 1 1 4 (by decide) rfl (dev20_eq c) ![5, 4, 4, 4] ![5, 5, 4, 4] rfl rfl (by decide) (off20_eq c 1) (handb_none c 1 4 (by decide))) $$ HR Hi1 Ho Hv11 Hl11 HR
  iintro ⟨Hi1, Ho, Hv11⟩
  iapply (turn_out m K c (ch 1 c 4) 1 1 (ch 3 c 3) 3 ![5, 5, 4, 4] (off28_eq c 0) ((off5_eq c 0).trans (again c 1 0)) (fun v => k0_pay37 (k0_pay36 v)) (fun _ => rfl)) $$ HR Hst1 Ho Hv11 Hu11
  iintro ⟨Hv11, Hst1, Hu30, Ho⟩
  iapply (turn_ag m K c 2 0 3 (by decide) rfl ![5, 5, 4, 4] (by decide) (handb_take c 2 1 3 (by decide) rfl 3 rfl)) $$ HR Hi2 Ho Hv20
  iintro ⟨Hi2, Ho, Hf20, Hv21, Hl31⟩
  iapply (send_ag m K c 2 1 4 (by decide) rfl (dev21_eq c) ![5, 5, 4, 4] ![5, 5, 5, 4] rfl rfl (by decide) (off21_eq c 1) (handb_give c 2 2 4 (by decide) rfl 3 rfl)) $$ HR Hi2 Ho Hv21 Hl21 Hp32
  iintro ⟨Hi2, Ho, Hv21⟩
  iapply (turn_out m K c (ch 2 c 4) 2 0 (ch 0 c 4) 0 ![5, 5, 5, 4] (off29_eq c 0) ((off6_eq c 0).trans (again c 2 0)) k0_pay38 (fun _ => rfl)) $$ HR Hst0 Ho Hv21 Hu21
  iintro ⟨Hv21, Hst0, Hu01, Ho⟩
  iapply (turn_ag m K c 3 0 3 (by decide) rfl ![5, 5, 5, 4] (by decide) (handb_take c 3 2 3 (by decide) rfl 2 rfl)) $$ HR Hi3 Ho Hv30
  iintro ⟨Hi3, Ho, Hf30, Hv31, Hl22⟩
  iapply (send_ag m K c 3 1 4 (by decide) rfl (dev22_eq c) ![5, 5, 5, 4] ![5, 5, 5, 5] rfl rfl (by decide) (off22_eq c 1) (handb_none c 3 4 (by decide))) $$ HR Hi3 Ho Hv31 Hl31 HR
  iintro ⟨Hi3, Ho, Hv31⟩
  iapply (turn_out m K c (ch 3 c 4) 3 1 (ch 1 c 4) 1 ![5, 5, 5, 5] (off30_eq c 0) ((off7_eq c 0).trans (again c 3 0)) k0_pay39 (fun _ => rfl)) $$ HR Hst1 Ho Hv31 Hu31
  iintro ⟨Hv31, Hst1, Hu11, Ho⟩
  iapply (turn_ag m K c 0 1 4 (by decide) rfl ![5, 5, 5, 5] (by decide) (handb_take c 0 2 4 (by decide) rfl 1 rfl)) $$ HR Hi0 Ho Hv01
  iintro ⟨Hi0, Ho, Hf01, Hv02, Hl12⟩
  iapply (send_ag m K c 0 2 5 (by decide) rfl (dev23_eq c) ![5, 5, 5, 5] ![6, 5, 5, 5] rfl rfl (by decide) (off19_eq c 2) (handb_none c 0 5 (by decide))) $$ HR Hi0 Ho Hv02 Hl02 HR
  iintro ⟨Hi0, Ho, Hv02⟩
  iapply (turn_out m K c (ch 0 c 5) 0 0 (ch 2 c 4) 2 ![6, 5, 5, 5] (off27_eq c 1) ((off4_eq c 1).trans (again c 0 1)) k0_pay40 (fun _ => rfl)) $$ HR Hst0 Ho Hv02 Hu02
  iintro ⟨Hv02, Hst0, Hu21, Ho⟩
  iapply (turn_ag m K c 1 1 4 (by decide) rfl ![6, 5, 5, 5] (by decide) (handb_drop 1 4 (up 1 c))) $$ HR Hi1 Ho Hv11
  iintro ⟨Hi1, Ho, Hf11, Hv12, -⟩
  iapply (send_ag m K c 1 2 5 (by decide) rfl (dev24_eq c) ![6, 5, 5, 5] ![6, 6, 5, 5] rfl rfl (by decide) (off20_eq c 2) (handb_none c 1 5 (by decide))) $$ HR Hi1 Ho Hv12 Hl12 HR
  iintro ⟨Hi1, Ho, Hv12⟩
  iapply (turn_out m K c (ch 1 c 5) 1 1 (ch 3 c 4) 3 ![6, 6, 5, 5] (off28_eq c 1) ((off5_eq c 1).trans (again c 1 1)) k0_pay41 (fun _ => rfl)) $$ HR Hst1 Ho Hv12 Hu12
  iintro ⟨Hv12, Hst1, Hu31, Ho⟩
  iapply (turn_ag m K c 2 1 4 (by decide) rfl ![6, 6, 5, 5] (by decide) (handb_take c 2 2 4 (by decide) rfl 3 rfl)) $$ HR Hi2 Ho Hv21
  iintro ⟨Hi2, Ho, Hf21, Hv22, Hl32⟩
  iapply (send_ag m K c 2 2 5 (by decide) rfl (dev25_eq c) ![6, 6, 5, 5] ![6, 6, 6, 5] rfl rfl (by decide) (off21_eq c 2) (handb_none c 2 5 (by decide))) $$ HR Hi2 Ho Hv22 Hl22 HR
  iintro ⟨Hi2, Ho, Hv22⟩
  iapply (turn_out m K c (ch 2 c 5) 2 0 (ch 0 c 5) 0 ![6, 6, 6, 5] (off29_eq c 1) ((off6_eq c 1).trans (again c 2 1)) k0_pay42 (fun _ => rfl)) $$ HR Hst0 Ho Hv22 Hu22
  iintro ⟨Hv22, Hst0, Hu02, Ho⟩
  iapply (turn_ag m K c 3 1 4 (by decide) rfl ![6, 6, 6, 5] (by decide) (handb_drop 3 4 (up 3 c))) $$ HR Hi3 Ho Hv31
  iintro ⟨Hi3, Ho, Hf31, Hv32, -⟩
  iapply (send_ag m K c 3 2 5 (by decide) rfl (dev26_eq c) ![6, 6, 6, 5] ![6, 6, 6, 6] rfl rfl (by decide) (off22_eq c 2) (handb_none c 3 5 (by decide))) $$ HR Hi3 Ho Hv32 Hl32 HR
  iintro ⟨Hi3, Ho, Hv32⟩
  iapply (turn_out m K c (ch 3 c 5) 3 1 (ch 1 c 5) 1 ![6, 6, 6, 6] (off30_eq c 1) ((off7_eq c 1).trans (again c 3 1)) k0_pay43 (fun _ => rfl)) $$ HR Hst1 Ho Hv32 Hu32
  iintro ⟨Hv32, Hst1, Hu12, Ho⟩
  iapply (turn_ag m K c 0 2 5 (by decide) rfl ![6, 6, 6, 6] (by decide) (handb_drop 0 5 (up 0 c))) $$ HR Hi0 Ho Hv02
  iintro ⟨Hi0, Ho, Hf02, Hv03, -⟩
  iapply (turn_out m K c (ch 0 c 6) 0 0 (ch 2 c 5) 2 ![6, 6, 6, 6] (off27_eq c 2) ((off4_eq c 2).trans (again c 0 2)) k0_pay44 (fun _ => rfl)) $$ HR Hst0 Ho Hv03 Hu03
  iintro ⟨Hv03, Hst0, Hu22, Ho⟩
  iapply (turn_ag m K c 1 2 5 (by decide) rfl ![6, 6, 6, 6] (by decide) (handb_drop 1 5 (up 1 c))) $$ HR Hi1 Ho Hv12
  iintro ⟨Hi1, Ho, Hf12, Hv13, -⟩
  iapply (turn_out m K c (ch 1 c 6) 1 1 (ch 3 c 5) 3 ![6, 6, 6, 6] (off28_eq c 2) ((off5_eq c 2).trans (again c 1 2)) k0_pay45 (fun _ => rfl)) $$ HR Hst1 Ho Hv13 Hu13
  iintro ⟨Hv13, Hst1, Hu32, Ho⟩
  iapply (turn_ag m K c 2 2 5 (by decide) rfl ![6, 6, 6, 6] (by decide) (handb_drop 2 5 (up 2 c))) $$ HR Hi2 Ho Hv22
  iintro ⟨Hi2, Ho, Hf22, Hv23, -⟩
  iapply (turn_out m K c (ch 2 c 6) 2 0 (ch 0 c 6) 0 ![6, 6, 6, 6] (off29_eq c 2) ((off6_eq c 2).trans (again c 2 2)) k0_pay46 (fun _ => rfl)) $$ HR Hst0 Ho Hv23 Hu23
  iintro ⟨Hv23, Hst0, Hu03, Ho⟩
  iapply (turn_ag m K c 3 2 5 (by decide) rfl ![6, 6, 6, 6] (by decide) (handb_drop 3 5 (up 3 c))) $$ HR Hi3 Ho Hv32
  iintro ⟨Hi3, Ho, Hf32, Hv33, -⟩
  iapply (turn_out m K c (ch 3 c 6) 3 1 (ch 1 c 6) 1 ![6, 6, 6, 6] (off30_eq c 2) ((off7_eq c 2).trans (again c 3 2)) k0_pay47 (fun _ => rfl)) $$ HR Hst1 Ho Hv33 Hu33
  iintro ⟨Hv33, Hst1, Hu13, Ho⟩
  iapply (wait_out m K c 0 (ch 2 c 6) 2 ![6, 6, 6, 6]) $$ HR Hst0 Ho
  iintro ⟨Hst0, Hu23, Ho⟩
  iapply (wait_out m K c 1 (ch 3 c 6) 3 ![6, 6, 6, 6]) $$ HR Hst1 Ho
  iintro ⟨Hst1, Hu33, Ho⟩
  rw [wp_ret]; imodintro
  iapply Hk
  unfold after staged operand rest
  isplitl [HzB]; · iexact HzB
  isplitl [Hi0 Hi1 Hi2 Hi3]
  · iapply (each_intro (fun q => Idle q c 6)) $$ Hi0 Hi1 Hi2 Hi3
  isplitl [Ho]; · iapply (Ow_six c) $$ Ho
  isplitl [Hs00 Hs01 Hs02 Hs10 Hs11 Hs12 Hs20 Hs21 Hs22 Hs30 Hs31 Hs32]
  · ihave Hs0 := (slots_intro c 0) $$ Hs00 Hs01 Hs02
    ihave Hs1 := (slots_intro c 1) $$ Hs10 Hs11 Hs12
    ihave Hs2 := (slots_intro c 2) $$ Hs20 Hs21 Hs22
    ihave Hs3 := (slots_intro c 3) $$ Hs30 Hs31 Hs32
    iapply (each_intro (fun q => slots c q)) $$ Hs0 Hs1 Hs2 Hs3
  isplitl [Hw Hsx Hsw]
  · isplitl [Hw]; · iexact Hw
    isplitl [Hsx] <;> iassumption
  isplitl [Hx0 Hx1 Hx2 Hx3]
  · iapply (rows_intro c (fun k => ownsTc c (xB k) fullShare (xrow m c k))) $$ Hx0 Hx1 Hx2 Hx3
  isplitl [Hxs0 Hxs1 Hst0 Hst1]
  · isplitl [Hxs0]; · iexact Hxs0
    isplitl [Hxs1]; · iexact Hxs1
    isplitl [Hst0] <;> iassumption
  isplitl [Hf00 Hf01 Hf02 Hf10 Hf11 Hf12 Hf20 Hf21 Hf22 Hf30 Hf31 Hf32 Hv03 Hv13 Hv23 Hv33]
  · ihave Hv03 := (anyOwn_intro c _ _) $$ Hv03
    ihave Hf0 := (owns4_intro c 0 (fun k => anyOwn c (pb k 0))) $$ Hf00 Hf01 Hf02 Hv03
    ihave Hv13 := (anyOwn_intro c _ _) $$ Hv13
    ihave Hf1 := (owns4_intro c 1 (fun k => anyOwn c (pb k 1))) $$ Hf10 Hf11 Hf12 Hv13
    ihave Hv23 := (anyOwn_intro c _ _) $$ Hv23
    ihave Hf2 := (owns4_intro c 2 (fun k => anyOwn c (pb k 2))) $$ Hf20 Hf21 Hf22 Hv23
    ihave Hv33 := (anyOwn_intro c _ _) $$ Hv33
    ihave Hf3 := (owns4_intro c 3 (fun k => anyOwn c (pb k 3))) $$ Hf30 Hf31 Hf32 Hv33
    iapply (each_intro (fun q => owns4 c q fun k => anyOwn c (pb k q))) $$ Hf0 Hf1 Hf2 Hf3
  ihave Hu0 := (finished m c 0) $$ Hu00 Hu01 Hu02 Hu03
  ihave Hu1 := (finished m c 1) $$ Hu10 Hu11 Hu12 Hu13
  ihave Hu2 := (finished m c 2) $$ Hu20 Hu21 Hu22 Hu23
  ihave Hu3 := (finished m c 3) $$ Hu30 Hu31 Hu32 Hu33
  iapply (each_intro (fun q => owns4 c q fun k => ownsTc c (outB k q) fullShare (wide (fin m k q)))) $$ Hu0 Hu1 Hu2 Hu3

end Cert.KernelIdeal.Hand
-- ==== Proof.Ideal.Launch.lean ====
module

public import proofs.«01_k».proof.Proof.Ideal.Ghost
public import proofs.«01_k».proof.Proof.Ideal.Body
public import proofs.«01_k».proof.Proof.Gen.KernelIdeal.Launch
public import Idealize.ShloMosaic.Lib.Pipeline.CollectiveSegs

/-!
The run: every fair execution of the four devices ends, with the result array of each device at `result m`, the
operands as they were and every semaphore at zero.
-/

@[expose] public section

noncomputable section

namespace Cert.KernelIdeal.Hand

open Cert.KernelIdeal Cert.KernelIdeal.Gen
open Cert.Ring Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The pipeline's data -/

/-- What the body holds before its one point beside the staged operands and what it owes, and after it. -/
def held : sProp 𝕄 :=
  iprop(barStart c ∗ each (fun q => Idle q c 0) ∗ each (fun q => slots c q) ∗ operand m c ∗ rest c ∗ rows c (fun k => anyOwn c (rowB k))
    ∗ each (fun q => owns4 c q fun k => anyOwn c (outB k q)))
def Φ₀ : sProp 𝕄 := iprop(∃ K, Rec m K ∗ held m c)
def Φ₁ : sProp 𝕄 :=
  iprop(semVal (barC c) 0 ∗ each (fun q => Idle q c 6) ∗ each (fun q => slots c q) ∗ operand m c ∗ rest c
    ∗ each (fun q => owns4 c q fun k => anyOwn c (pb k q)) ∗ each (fun q => owns4 c q fun k => ownsTc c (outB k q) fullShare (wide (fin m k q))))

def dats (_ : Fin 1) (c : Dev nD) : Dat τ (Elt F) Unit ℕ UU ℕ cfg0 c where
  A w := m ((cfg0.win w).arr.view.loc (c : Thread nD τ))
  after w _ := match w with
    | ⟨0, _⟩ => wst m c
    | ⟨1, _⟩ => sxst m c
    | ⟨2, _⟩ => swst m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (w : Fin 3) (t : Fin cfg0.N) : (cfg0.win w).fetch t = true := by
  rw [fin_N0 t]; fin_cases w <;> rfl

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost : sProp 𝕄 :=
  iprop(Φ₁ m c ∗ (dats m 0 c).owesAt () t0_0.succ ∗ stg c cc0_stg0_0 (wst m c) ∗ stg c cc0_stg1_0 (sxst m c) ∗ stg c cc0_stg2_0 (swst m c))

theorem bodyPre_open : bodyPre m c ⊢ iprop(∃ K, Rec m K ∗ before m c) := by
  unfold bodyPre Φ₀ held before staged
  iintro ⟨⟨%K, HR, H1, H2, H3, H4, H5, H6, H7⟩, Ho, ⟨%d0, %g0, %hg0, Hw⟩, ⟨%d1, %g1, %hg1, Hx⟩, ⟨%d2, %g2, %hg2, Hs⟩⟩
  have h0 : g0 = wst m c := by rw [hg0]; unfold Dat.before; rw [if_pos (fetch_0 0 t0_0)]; rfl
  have h1 : g1 = sxst m c := by rw [hg1]; unfold Dat.before; rw [if_pos (fetch_0 1 t0_0)]; rfl
  have h2 : g2 = swst m c := by rw [hg2]; unfold Dat.before; rw [if_pos (fetch_0 2 t0_0)]; rfl
  subst h0 h1 h2
  unfold Dat.owesAt Pipeline.owesWithin
  icases Ho with ⟨%W, %hW, HO⟩
  iexists K
  isplitl [HR]; · iexact HR
  isplitl [H1]; · iexact H1
  isplitl [H2]; · iexact H2
  isplitl [HO]; · iexists W; iexact HO
  isplitl [H3]; · iexact H3
  isplitl [Hw Hx Hs]
  · isplitl [Hw]; · iexact Hw
    isplitl [Hx] <;> iassumption
  isplitl [H4]; · iexact H4
  isplitl [H5]; · iexact H5
  isplitl [H6] <;> iassumption

theorem bodyPost_close : after m c ⊢ bodyPost m c := by
  unfold bodyPost Φ₁ after staged
  iintro ⟨HB, HI, HO, HS, ⟨Hw, Hx, Hs⟩, H1, H2, H3, H4⟩
  isplitl [HB HI HS H1 H2 H3 H4]
  · isplitl [HB]; · iexact HB
    isplitl [HI]; · iexact HI
    isplitl [HS]; · iexact HS
    isplitl [H1]; · iexact H1
    isplitl [H2]; · iexact H2
    isplitl [H3] <;> iassumption
  isplitl [HO]
  · unfold Ow; rw [Owed_six]
    unfold Dat.owesAt Pipeline.owesWithin
    icases HO with ⟨%W, HO⟩
    iexists W
    isplitr; · ipureintro; exact fun _ _ => Or.inl trivial
    iexact HO
  isplitl [Hw]
  · iexists _; isplitr; · (ipureintro; rfl)
    iexact Hw
  isplitl [Hx]
  · iexists _; isplitr; · (ipureintro; rfl)
    iexact Hx
  iexists _; isplitr; · (ipureintro; rfl)
  iexact Hs

set_option maxRecDepth 100000 in
theorem body_obligation : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0_body (Memref.whole main_arg0) (Memref.isWhole_whole _) (Memref.whole cc0_stg0_0) (Memref.isWhole_whole _)
      (Memref.whole cc0_stg1_0) (Memref.isWhole_whole _) (Memref.whole cc0_stg2_0) (Memref.isWhole_whole _)
      (Memref.whole main_v1) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7) (fun _ => bodyPost m c)
  iintro H
  ihave H := (bodyPre_open m c) $$ H
  icases H with ⟨%K, HR, H⟩
  iapply (sound_body m K c fun _ => bodyPost m c) $$ HR H
  iintro H
  iapply (bodyPost_close m c) $$ H

/-! ## The launch's side conditions -/

theorem share_eq (w : Fin cfg0.W) : (dats m 0 c).share w = fullShare := by unfold Dat.share; split <;> rfl

theorem Rec_close (K : Dev nD × CellIx → ℕ) : iprop(shared m K ∗ levAts L lv) ⊢ Rec m K := by
  unfold shared Rec
  iintro ⟨⟨H1, H2⟩, H3⟩
  isplitl [H1]; · iexact H1
  isplitl [H2] <;> iassumption

/-- What a device's body starts from, but for the scratch buffers. -/
def start : sProp 𝕄 :=
  iprop((∃ K, Rec m K) ∗ barStart c ∗ each (fun q => Idle q c 0) ∗ locals c ∗ operand m c
    ∗ each (fun q => owns4 c q fun k => anyOwn c (outB k q)))

theorem own_split : iprop(own' c ∗ Pipeline.launchCred O₀ c) ⊢ iprop(barStart c ∗ each (fun q => Idle q c 0) ∗ locals c : sProp 𝕄) := by
  unfold own' pay barStart
  iintro ⟨⟨Hat, ⟨⟨Htok, HtF⟩, HtT⟩, Hl⟩, Hcr⟩
  ihave Hat := (Entails.of_eq (cells_eq fun k : CellIx => atPos ER (kcell (c, k)) 0 ∅ 0)) $$ Hat
  icases Hat with ⟨⟨HaS, HaR⟩, HaB⟩
  ihave Hcr := (creds c) $$ Hcr
  icases Hcr with ⟨HcB, HcR⟩
  isplitl [HtT HtF HaB HcB]
  · isplitl [HtT]; · iexact HtT
    isplitl [HtF]; · iexact HtF
    isplitl [HaB]; · iexact HaB
    iexact HcB
  isplitr [Hl]
  · iapply (idle_start c)
    isplitl [Htok]; · iexact Htok
    isplitl [HaS]; · iexact HaS
    isplitl [HaR]; · iexact HaR
    iexact HcR
  iexact Hl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨⟨Hx, Hv⟩, Hlev, Hcr, -, ⟨%K, HR, Hown⟩⟩
  ihave HR := (Rec_close m K) $$ [HR Hlev]
  · isplitl [HR] <;> iassumption
  ihave H := (own_split c) $$ [Hown Hcr]
  · isplitl [Hown] <;> iassumption
  icases H with ⟨H1, H2, H3⟩
  imodintro
  isplitl
  · isplitl [HR]; · iexists K; iexact HR
    isplitl [H1]; · iexact H1
    isplitl [H2]; · iexact H2
    isplitl [H3]; · iexact H3
    isplitl [Hx]; · iapply (operand_split m c) $$ Hx
    iapply (out_split c (m ((c : Thread nD τ).loc main_v1))) $$ Hv
  · iempintro

theorem rest_intro : iprop(locals c ∗ (anyOwn c (xsB 0) ∗ anyOwn c (xsB 1)) ∗ (anyOwn c (stB 0) ∗ anyOwn c (stB 1))) ⊢ (rest c : sProp 𝕄) := by
  unfold locals rest XSlot Slot
  iintro ⟨⟨H1, H2, H3, H4⟩, ⟨X1, X2⟩, ⟨S1, S2⟩⟩
  isplitl [H1 X1]
  · isplitl [X1] <;> iassumption
  isplitl [H2 X2]
  · isplitl [X2] <;> iassumption
  isplitl [H3 S1]
  · isplitl [S1] <;> iassumption
  isplitl [S2] <;> iassumption

theorem rest_elim : rest c ⊢ (iprop(locals c ∗ (anyOwn c (xsB 0) ∗ anyOwn c (xsB 1)) ∗ (anyOwn c (stB 0) ∗ anyOwn c (stB 1))) : sProp 𝕄) := by
  unfold locals rest XSlot Slot
  iintro ⟨⟨X1, H1⟩, ⟨X2, H2⟩, ⟨S1, H3⟩, ⟨S2, H4⟩⟩
  isplitl [H1 H2 H3 H4]
  · isplitl [H1]; · iexact H1
    isplitl [H2]; · iexact H2
    isplitl [H3] <;> iassumption
  isplitl [X1 X2]
  · isplitl [X1] <;> iassumption
  isplitl [S1] <;> iassumption

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start held
  iintro ⟨⟨⟨%K, HR⟩, H1, H2, H3, H4, H5⟩, -, ⟨B0, B1, B2, B3⟩⟩
  iexists K
  isplitl [HR]; · iexact HR
  isplitl [H1]; · iexact H1
  isplitl [H2]; · iexact H2
  isplitl [B2]; · iapply (rs_split c) $$ B2
  isplitl [H4]; · iexact H4
  isplitl [H3 B0 B3]
  · iapply (rest_intro c)
    isplitl [H3]; · iexact H3
    isplitl [B0]; · iapply (xs_split c) $$ B0
    iapply (st_split c) $$ B3
  isplitl [B1]; · iapply (row_split c) $$ B1
  iexact H5

/-- What a device ends with: its barrier at zero, its operand as it was, its result. -/
def done : sProp 𝕄 :=
  iprop(unscopedSems0 c ∗ ((c : Thread nD τ).loc main_arg0 ↦{fullShare} m ((c : Thread nD τ).loc main_arg0))
    ∗ ((c : Thread nD τ).loc main_v1 ↦{fullShare} result m))

theorem phi1_exit :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl, scopedRest0_eq, ownSems0_eq]
  unfold done; rw [unscopedSems0_eq]
  unfold Φ₁
  iintro ⟨HB, HI, HS, Hx, Hr, Hp, Hv⟩
  ihave Hr := (rest_elim c) $$ Hr
  icases Hr with ⟨Hl, H0, H3⟩
  isplitl [HB Hx Hv]
  · isplitl [HB]; · iexact HB
    isplitl [Hx]; · iapply (operand_join m c) $$ Hx
    iapply (out_join m c) $$ Hv
  isplitl [Hl HI]
  · isplitl [Hl]; · iexact Hl
    iapply (idle_end c) $$ HI
  isplitl [H0]; · iapply (xs_join c) $$ H0
  isplitl [Hp]; · iapply (blk_join c) $$ Hp
  isplitl [HS]; · iapply (rs_join c) $$ HS
  iapply (st_join c) $$ H3

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem u₀_split : (ownU (u₀ : UU) : sProp 𝕄)
    ⊢ iprop(BI.own ((EP : Emb (UR sig nD τ) 𝕄) (initOf (Pipeline.cells cfgs cellOf_inj) (Pipeline.launchToks cfgs cellOf_inj)))
      ∗ BI.own ((ER : Emb UB 𝕄) (initOf ringCells ringToks))) := by
  unfold u₀
  iintro H
  ihave H := (ownU_pair _ _) $$ H
  icases H with ⟨H1, H2⟩
  isplitl [H1]; · iexact H1
  iexact H2

/-! ## The run -/

/-- What a device's memory holds in the end. -/
def QY (c : Dev nD) (s : MemSt nD τ sig (Elt F)) : Prop :=
  (s.mem ((c : Thread nD τ).loc main_arg0) = m ((c : Thread nD τ).loc main_arg0) ∧ s.mem ((c : Thread nD τ).loc main_v1) = result m)
    ∧ ∀ sm : SemLoc sig, sm.isScoped .tc = false → s.sem ((c.tc : Thread nD τ), sm) = 0

theorem read_done (s' : Phys nD τ sig (Elt F)) :
    iprop(done m c ∗ emp ∗ SI s') ⊢ |={Set.univ}=> iprop(⌜QY m c s'.mem⌝ ∗ SI s') := by
  unfold done
  iintro ⟨⟨Hu, Hx, Hv⟩, -, HSI⟩
  ihave H := (pointsTo_read_all {()} (fun _ => (c : Thread nD τ).loc main_arg0) (fun _ => m ((c : Thread nD τ).loc main_arg0)) s') $$ [Hx HSI]
  · isplitl [Hx]
    · rw [bigSep_singleton]; iexact Hx
    · iexact HSI
  icases H with ⟨%hx, HSI⟩
  ihave H := (pointsTo_read_all {()} (fun _ => (c : Thread nD τ).loc main_v1) (fun _ => result m) s') $$ [Hv HSI]
  · isplitl [Hv]
    · rw [bigSep_singleton]; iexact Hv
    · iexact HSI
  icases H with ⟨%hv, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨⟨hx () (Finset.mem_singleton_self _), hv () (Finset.mem_singleton_self _)⟩, hs⟩
  iexact HSI

/-- The end of a run from memory `m`. -/
def QC : PUnit × MemSt nD τ sig (Elt F) → Prop := fun r =>
  (∀ c : Dev nD, r.2.mem ((c : Thread nD τ).loc main_v1) = result m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

set_option maxRecDepth 100000 in
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := u₀_split $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m) (hout := phi1_exit m)
    (QY := QY m) (hY := read_done m)
    (hQ := fun s h hs => ⟨fun c => ⟨(h c).2.2.1.2, (h c).2.2.1.1,
        ((h c).1 (0 : Fin 3)).trans ((dats m 0 c).arrAt_in (0 : Fin 3) rfl _),
        ((h c).1 (1 : Fin 3)).trans ((dats m 0 c).arrAt_in (1 : Fin 3) rfl _),
        ((h c).1 (2 : Fin 3)).trans ((dats m 0 c).arrAt_in (2 : Fin 3) rfl _)⟩,
      sem_eq_zero hs fun c => (h c).2.2.2⟩)

end Cert.KernelIdeal.Hand
-- ==== Proof.Ideal.Frame.lean ====
module

public import proofs.«01_k».proof.Proof.Ideal.Launch
public import proofs.«01_k».proof.Defs

/-!
The frame claim, from the run with the result's contents dropped.
-/

@[expose] public section

noncomputable section

namespace Cert.KernelIdeal.Hand

open Idealize.ShloMosaic Idealize.SL.Sem

theorem frame : Cert.quiescent_KernelIdeal := fun m g _ =>
  (θ_run (Cert.KernelIdeal.defs (F := Ideal)) _ _).mono (fun _ h => ⟨fun c => (h.1 c).2, h.2⟩) (run_main (F := Ideal) m g)

end Cert.KernelIdeal.Hand
-- ==== Proof.Word.Frame.lean ====
module

public import proofs.«01_k».proof.Proof.Word.Launch
public import proofs.«01_k».proof.Defs

/-!
The frame claim, from the run with the result's contents dropped.
-/

@[expose] public section

noncomputable section

namespace Cert.Kernel.Hand

open Idealize.ShloMosaic Idealize.SL.Sem

theorem frame : Cert.quiescent_Kernel := fun m g _ =>
  (θ_run (Cert.Kernel.defs (F := Bits)) _ _).mono (fun _ h => ⟨fun c => (h.1 c).2, h.2⟩) (run_main (F := Bits) m g)

end Cert.Kernel.Hand
-- ==== Proof.Value.Product.lean ====
module

public import proofs.«01_k».proof.Proof.Ideal.Contents
public import Idealize.ShloMosaic.Lib.MatmulPlain

/-!
What one device's partial product holds, and what the sum over the four devices of one block holds, at the ideal values.
-/

@[expose] public section

noncomputable section

namespace Cert.KernelIdeal.Hand

open Cert.KernelIdeal Cert.KernelIdeal.Gen
open Cert.Ring
open Idealize.ShloMosaic Idealize.ShloMosaic.ValueIdx
open Idealize.ShloMosaic.TcCoe
open scoped BigOperators

variable (m : (ℓ : Loc nD τ sig) → Buf (Elt Ideal) ℓ)

/-- Device `d`'s left and right operand. -/
def lhsOf (d : Dev nD) : (⟨2, ![4096, 1024]⟩ : Shape).Idx → EReal := m ((d : Thread nD τ).loc main_arg0)
def rhsOf (d : Dev nD) : (⟨2, ![1024, 2048]⟩ : Shape).Idx → EReal := m ((d : Thread nD τ).loc main_arg1)

/-- What device `d` adds to entry (r, n) of the product. -/
def part (d : Dev nD) (r : Fin 4096) (n : Fin 2048) : EReal := ∑ t : Fin 1024, lhsOf m d (ix2 r t) * rhsOf m d (ix2 t n)

theorem dot_plain : dot_S1024x1024_S1024x2048_S1024x2048_1_0_0_1_n_n = DotDims.plain 1024 1024 2048 := rfl

/-- The staged right operand is the operand. -/
theorem wst_apply (c : Dev nD) (i : (⟨2, ![1024, 2048]⟩ : Shape).Idx) :
    (wst m c : (⟨2, ![1024, 2048]⟩ : Shape).Idx → EReal) i = rhsOf m c i :=
  congrArg (rhsOf m c) (Shape.idx_ext₂ (show 0 + 1 * (i 0).val = _ by omega) (show 0 + 1 * (i 1).val = _ by omega))

/-- A row block of the partial product at an entry. -/
theorem prod_apply (c : Dev nD) (k : Fin 4) (r : Fin 1024) (n : Fin 2048) (R : Fin 4096) (hR : R.val = 1024 * k.val + r.val) :
    (prod m c k : (⟨2, ![1024, 2048]⟩ : Shape).Idx → EReal) (ix2 r n) = part m c R n := by
  have e : prod m c k = truncf .bf16 (matmul (φ₂ := .f32) dot_S1024x1024_S1024x2048_S1024x2048_1_0_0_1_n_n none (xrow m c k)
      (wst m c : FVec Ideal S1024x2048 .f32) (constant S1024x2048 .f32 0x00000000#32)) bitsLt_bf16_f32 := by
    unfold prod k0_pay2
    exact (shapeCast_self _ _).trans (congrArg (fun w : FVec Ideal S1024x2048 .f32 =>
      truncf .bf16 (matmul (φ₂ := .f32) dot_S1024x1024_S1024x2048_S1024x2048_1_0_0_1_n_n none (xrow m c k) w
        (constant S1024x2048 .f32 0x00000000#32)) bitsLt_bf16_f32) (shapeCast_self (s := S1024x2048) (wst m c) _))
  rw [e, dot_plain]
  refine (Ideal.matmul_plain_apply (φ₂ := .f32) none (xrow m c k) (wst m c : FVec Ideal S1024x2048 .f32) _ r n).trans ?_
  show Ideal.ofBits .f32 0x00000000#32 + _ = _
  rw [Ideal.ofBits_zero_f32, zero_add]
  refine Finset.sum_congr rfl fun t _ => ?_
  rw [wst_apply]
  refine congrArg (· * _) (congrArg (lhsOf m c) ?_)
  exact Shape.idx_ext₂ (show 1024 * k.val + 1 * r.val = R.val by omega) (show 0 + 1 * t.val = t.val by omega)

/-- A block of it at an entry, in the entry's place in the whole. -/
theorem P_apply (q c k : Fin 4) (j : (blkR k q).shape.Idx) :
    (P m q c k : S1024x512.Idx → EReal) j = part m c ((blkR k q).emb j 0) ((blkR k q).emb j 1) := by
  have hc : (colR q).emb j = ix2 (⟨(j 0).val, (j 0).isLt⟩ : Fin 1024) (((blkR k q).emb j 1 : Fin 2048)) :=
    Shape.idx_ext₂ (show 512 * 0 + 1 * (j 0).val = (j 0).val by omega) rfl
  show (prod m c k : (⟨2, ![1024, 2048]⟩ : Shape).Idx → EReal) ((colR q).emb j) = _
  rw [hc]
  exact prod_apply m c k _ _ _ (show 1024 * k.val + 1 * (j 0).val = _ by simp)

/-- Once around a ring is once over the four devices. -/
theorem around (q c : Fin 4) (f : Fin 4 → EReal) :
    f c + (f (up q c) + (f (up q (up q c)) + f (up q (up q (up q c))))) = ∑ d : Fin 4, f d := by
  rw [Fin.sum_univ_four]
  fin_cases q <;> fin_cases c <;> simp [up, even] <;> abel

/-- A finished sum at an entry is the sum of the four devices' partial products there. -/
theorem A_apply (q k : Fin 4) (j : (blkR k q).shape.Idx) :
    (A m q 3 (orig q k) : S1024x512.Idx → EReal) j = ∑ d : Fin 4, part m d ((blkR k q).emb j 0) ((blkR k q).emb j 1) := by
  have acc : ∀ a r : FVec Ideal S1024x512 .bf16, (accum a r : S1024x512.Idx → EReal) j = a j + r j := fun a r => by
    unfold accum; rw [shapeCast_self]; rfl
  have h3 : ch q (orig q k) (2 + 1) = k := ch_orig q k
  have h2 : ch q (up q (orig q k)) (1 + 1) = k := by rw [ch_up]; exact h3
  have h1 : ch q (up q (up q (orig q k))) (0 + 1) = k := by rw [ch_up]; exact h2
  have h0 : ch q (up q (up q (up q (orig q k)))) 0 = k := by rw [ch_up]; exact h1
  show (A m q (2 + 1) (orig q k) : S1024x512.Idx → EReal) j = _
  rw [A, acc, A, acc, A, acc, A, h0, h1, h2, h3, P_apply, P_apply, P_apply, P_apply]
  exact around q (orig q k) fun d => part m d ((blkR k q).emb j 0) ((blkR k q).emb j 1)

end Cert.KernelIdeal.Hand
-- ==== Proof.Value.Result.lean ====
module

public import proofs.«01_k».proof.Proof.Value.Product

/-!
What the kernel's result holds at an entry, at the ideal values: the four devices' partial products summed, scaled, and
cut at zero.
-/

@[expose] public section

noncomputable section

namespace Cert.KernelIdeal.Hand

open Cert.KernelIdeal Cert.KernelIdeal.Gen
open Cert.Ring
open Idealize.ShloMosaic Idealize.ShloMosaic.ValueIdx
open Idealize.ShloMosaic.TcCoe
open scoped BigOperators

variable (m : (ℓ : Loc nD τ sig) → Buf (Elt Ideal) ℓ)

/-- The two scales of device `c`, at their one index. -/
def sxOf (c : Dev nD) : EReal := (m ((c : Thread nD τ).loc main_arg2) : S1.Idx → EReal) i1
def swOf (c : Dev nD) : EReal := (m ((c : Thread nD τ).loc main_arg3) : S1.Idx → EReal) i1

theorem sxst_apply (c : Dev nD) : (sxst m c : S1.Idx → EReal) i1 = sxOf m c :=
  congrArg (m ((c : Thread nD τ).loc main_arg2) : S1.Idx → EReal) (idx1_eq _)
theorem swst_apply (c : Dev nD) : (swst m c : S1.Idx → EReal) i1 = swOf m c :=
  congrArg (m ((c : Thread nD τ).loc main_arg3) : S1.Idx → EReal) (idx1_eq _)

theorem scale_eq (c : Dev nD) : (scale m c : EReal) = sxOf m c * swOf m c := by
  rw [← sxst_apply, ← swst_apply]; rfl

/-- The constant the kernel cuts at is zero. -/
theorem cut_zero : (Ideal.ofBits .bf16 0x0000#16 : EReal) = 0 := by simp [Ideal.ofBits, Ideal.ieee]

/-- Scaling and cutting at an entry. -/
theorem relu_apply (s : EReal) (a : S1024x512.Idx → EReal) (j : S1024x512.Idx) :
    (relu (F := Ideal) s a : S1024x512.Idx → EReal) j = max (a j * s) 0 := by
  unfold relu k0_pay22
  refine (congrFun (shapeCast_self (s := S1024x512) _ _) j).trans ?_
  show max (a j * s) (Ideal.ofBits .bf16 0x0000#16) = _
  rw [cut_zero]

/-- The result at an entry. -/
theorem result_apply (sx sw : EReal) (hx : ∀ c, sxOf m c = sx) (hw : ∀ c, swOf m c = sw) (i : S4096x2048.Idx) :
    (result m : S4096x2048.Idx → EReal) i = max ((∑ d : Fin 4, part m d (i 0) (i 1)) * (sx * sw)) 0 := by
  have hi : i ∈ (Finset.univ : Finset (Fin 4 × Fin 4)).biUnion fun t => (blkF t).set := by
    rw [blk_family.2]; exact Finset.mem_univ i
  obtain ⟨⟨k, q⟩, -, ht⟩ := Finset.mem_biUnion.1 hi
  rw [← Rect.map_emb_univ] at ht
  obtain ⟨j, -, rfl⟩ := Finset.mem_map.1 ht
  refine (congrFun (result_blk m k q) j).trans ?_
  show (relu (scale m (orig q k)) (A m q 3 (orig q k)) : S1024x512.Idx → EReal) j = _
  rw [relu_apply, A_apply, scale_eq, hx, hw]

end Cert.KernelIdeal.Hand
-- ==== Proof.Value.Reference.lean ====
module

public import proofs.«01_k».proof.Proof.Gen.ReferenceIdeal.Run
public import Idealize.ShloMosaic.Lib.StackMember

/-!
What the reference computes at an entry, at the ideal values: the whole product scaled, and cut at zero.
-/

@[expose] public section

noncomputable section

namespace Cert.ReferenceIdeal.Hand

open Cert.ReferenceIdeal Cert.ReferenceIdeal.Gen
open Idealize.ShloMosaic Idealize.ShloMosaic.ValueIdx
open scoped BigOperators

/-- The reference's result of its four arguments. -/
def spec (x : FVec Ideal S4096x4096 .f32) (w : FVec Ideal S4096x2048 .f32) (sx sw : FVec Ideal S1 .f32) :
    FVec Ideal S4096x2048 .f32 :=
  maximumf (mulf (Host.dotGeneral dot_S4096x4096_S4096x2048_S4096x2048_1_0_0_1_n_n none x w)
      (broadcastInDim S4096x2048 ![0, 1] bcast_S1x1_S4096x2048_0_1 (broadcastInDim S1x1 ![1] bcast_S1_S1x1_1 (mulf sx sw))))
    (broadcastInDim S4096x2048 ![] bcast_S_S4096x2048 (constant S_ .f32 0x00000000#32))

theorem one_index (i i' : S1.Idx) : i = i' := by
  funext a
  apply Fin.ext
  have h : ∀ j : S1.Idx, (j a).val = 0 := fun j => by
    have := (j a).isLt
    fin_cases a
    change (j 0).val < 1 at this
    show (j 0).val = 0
    omega
  rw [h i, h i']

theorem dot_plain : dot_S4096x4096_S4096x2048_S4096x2048_1_0_0_1_n_n = DotDims.plain 4096 4096 2048 := rfl

theorem spec_apply (x : (⟨2, ![4096, 4096]⟩ : Shape).Idx → EReal) (w : (⟨2, ![4096, 2048]⟩ : Shape).Idx → EReal)
    (sx sw : S1.Idx → EReal) (i0 : S1.Idx) (r : Fin 4096) (n : Fin 2048) :
    (spec x w sx sw : (⟨2, ![4096, 2048]⟩ : Shape).Idx → EReal) (ix2 r n) =
      max ((∑ t : Fin 4096, x (ix2 r t) * w (ix2 t n)) * (sx i0 * sw i0)) 0 := by
  rw [← StackMember.dotGeneral_plain_apply (φ₁ := .f32) (φ₂ := .f32) none x w r n, ← dot_plain, ← Ideal.ofBits_zero_f32]
  have hs : ∀ i : S1.Idx, (mulf (F := Ideal) (φ := .f32) sx sw : S1.Idx → EReal) i = sx i0 * sw i0 := fun i => by
    rw [one_index i i0]; rfl
  exact congrArg (fun s : EReal => max (_ * s) _) ((rfl : _ = (mulf (F := Ideal) (φ := .f32) sx sw : S1.Idx → EReal) _).trans (hs _))

end Cert.ReferenceIdeal.Hand
-- ==== Proof.Value.Equation.lean ====
module

public import proofs.«01_k».proof.Proof.Value.Result
public import proofs.«01_k».proof.Proof.Value.Reference
public import Idealize.ShloMosaic.Lib.Layout
public import Mathlib.Logic.Equiv.Fin.Basic

/-!
The kernel's result is the reference's: the sum over the whole contracted axis is the sum over the four devices of the
sums over their parts of it.
-/

@[expose] public section

noncomputable section

namespace Cert.Hand

open Idealize.ShloMosaic Idealize.ShloMosaic.ValueIdx
open Idealize.ShloMosaic.TcCoe
open Cert.KernelIdeal.Hand
open scoped BigOperators

/-- Place `t` of device `d`'s part of the contracted axis. -/
def place (d : Fin 4) (t : Fin 1024) : Fin 4096 := ⟨d.val * 1024 + t.val, by omega⟩

/-- A sum over the contracted axis, part by part. -/
theorem sum_parts (f : Fin 4096 → EReal) : ∑ u, f u = ∑ d : Fin 4, ∑ t : Fin 1024, f (place d t) := by
  rw [← Fintype.sum_prod_type' (f := fun d t => f (place d t)),
    ← Equiv.sum_comp (finProdFinEquiv : Fin 4 × Fin 1024 ≃ Fin (4 * 1024)) (fun u : Fin (4 * 1024) => f u)]
  refine Finset.sum_congr rfl fun p _ => congrArg f (Fin.ext ?_)
  show p.2.val + 1024 * p.1.val = p.1.val * 1024 + p.2.val
  omega

variable (m : (ℓ : Loc Cert.KernelIdeal.nD Cert.KernelIdeal.τ Cert.KernelIdeal.sig) → Buf (Elt Ideal) ℓ)

/-- From arguments cut over the devices the kernel's result is the reference's of the whole arguments. -/
theorem result_eq (x : (⟨2, ![4096, 4096]⟩ : Shape).Idx → EReal) (w : (⟨2, ![4096, 2048]⟩ : Shape).Idx → EReal)
    (sx sw : (⟨1, ![1]⟩ : Shape).Idx → EReal)
    (hx : ∀ c, lhsOf m c = Layout.block ⟨2, ![4096, 1024]⟩ ⟨2, ![4096, 4096]⟩ 1 4 c x)
    (hw : ∀ c, rhsOf m c = Layout.block ⟨2, ![1024, 2048]⟩ ⟨2, ![4096, 2048]⟩ 0 4 c w)
    (hsx : ∀ c, sxOf m c = sx i1) (hsw : ∀ c, swOf m c = sw i1) :
    (result m : (⟨2, ![4096, 2048]⟩ : Shape).Idx → EReal) = Cert.ReferenceIdeal.Hand.spec x w sx sw := by
  have key : ∀ (r : Fin 4096) (n : Fin 2048), (result m : (⟨2, ![4096, 2048]⟩ : Shape).Idx → EReal) (ix2 r n) =
      (Cert.ReferenceIdeal.Hand.spec x w sx sw : (⟨2, ![4096, 2048]⟩ : Shape).Idx → EReal) (ix2 r n) := fun r n => by
    refine (result_apply m _ _ hsx hsw (ix2 r n)).trans
      (Eq.trans ?_ (Cert.ReferenceIdeal.Hand.spec_apply x w sx sw i1 r n).symm)
    rw [sum_parts]
    refine congrArg (fun s : EReal => max (s * (sx i1 * sw i1)) 0) (Finset.sum_congr rfl fun d _ => ?_)
    refine Finset.sum_congr rfl fun t _ => ?_
    rw [hx, hw]
    exact congrArg₂ (fun a b : EReal => a * b)
      (congrArg x (Shape.idx_ext₂ rfl rfl)) (congrArg w (Shape.idx_ext₂ rfl rfl))
  funext i
  have hi : i = (ix2 (i 0 : Fin 4096) (i 1 : Fin 2048)) := Shape.idx_ext₂ rfl rfl
  rw [hi]
  exact key (i 0) (i 1)

end Cert.Hand
-- ==== Proof.Value.Algebraic.lean ====
module

public import proofs.«01_k».proof.Proof.Value.Equation
public import proofs.«01_k».proof.Proof.Ideal.Launch
public import proofs.«01_k».proof.Defs
public import Idealize.ShloMosaic.Lib.Quiescent

/-!
The reference's frame, and the value claim: both programs run and end with the same result.
-/

@[expose] public section

noncomputable section

namespace Cert.Hand

open Idealize.ShloMosaic Idealize.SL.Sem

theorem reference_frame : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

theorem algebraic : Cert.algebraic_KernelIdeal_ReferenceIdeal := fun m g m' g' _ hin =>
  ⟨Cert.KernelIdeal.Hand.result m,
    (θ_run (Cert.KernelIdeal.defs (F := Ideal)) _ _).mono (fun _ h => h.1) (Cert.KernelIdeal.Hand.run_main (F := Ideal) m g),
    (θ_run (Cert.ReferenceIdeal.defs (F := Ideal)) _ _).mono
      (fun _ h => ⟨(h 0).1.trans (result_eq m _ _ _ _ (fun c => (hin c).1) (fun c => (hin c).2.1)
        (fun c => congrFun (hin c).2.2.1 _) (fun c => congrFun (hin c).2.2.2 _)).symm, (h 0).2⟩)
      (Cert.ReferenceIdeal.Value.run (F := Ideal) m' g')⟩

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Frame
public import proofs.«01_k».proof.Proof.Word.Frame
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel.Hand.frame, Cert.KernelIdeal.Hand.frame, Cert.Hand.reference_frame, trivial, Cert.Hand.algebraic⟩

end Cert.Proof

end
